-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4096x3 : Shape := ⟨3, ![8, 4096, 3]⟩
abbrev S8x1024x3 : Shape := ⟨3, ![8, 1024, 3]⟩
abbrev S8x4096x256 : Shape := ⟨3, ![8, 4096, 256]⟩
abbrev S8x1024x256 : Shape := ⟨3, ![8, 1024, 256]⟩
abbrev S4 : Shape := ⟨1, ![4]⟩
abbrev S1 : Shape := ⟨1, ![1]⟩
abbrev S256x512 : Shape := ⟨2, ![256, 512]⟩
abbrev S256 : Shape := ⟨1, ![256]⟩
abbrev S256x256 : Shape := ⟨2, ![256, 256]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x1024x3 : S_.BroadcastsInDim S8x1024x3 (![] : Fin 0 → Fin S8x1024x3.rank)
  reducesTo_S8x1024x3_S_d0_1_2 : S8x1024x3.ReducesTo [0, 1, 2] S_
  bcast_S_S8x4096x256 : S_.BroadcastsInDim S8x4096x256 (![] : Fin 0 → Fin S8x4096x256.rank)
  reducesTo_S8x4096x256_S_d0_1_2 : S8x4096x256.ReducesTo [0, 1, 2] S_
  bcast_S_S8x1024x256 : S_.BroadcastsInDim S8x1024x256 (![] : Fin 0 → Fin S8x1024x256.rank)
  reducesTo_S8x1024x256_S_d0_1_2 : S8x1024x256.ReducesTo [0, 1, 2] S_
  bcast_S_S4 : S_.BroadcastsInDim S4 (![] : Fin 0 → Fin S4.rank)
  reducesTo_S4_S_d0 : S4.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg8 : FVec F S256 .f32) (main_arg9 : FVec F S256 .f32) (main_arg10 : FVec F S256x256 .f32) (main_arg11 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S4 .f32) (main_arg6 : FVec F S256x512 .f32) (main_arg7 : FVec F S256 .f32) (main_arg8 : FVec F S256 .f32) (main_arg9 : FVec F S256 .f32) (main_arg10 : FVec F S256x256 .f32) (main_arg11 : FVec F S256 .f32) (main_v13 : IVec S_ 1) (main_v16 : IVec S8x1024x256 1) : IVec S_ 1 :=
  let main_c_5 : IVec S_ 1 := constantI S_ 1 1#1
  let main_v17 : IVec S_ 1 := (fun x v => Host.reduce IntOp.andi x v reducesTo_S8x1024x256_S_d0_1_2 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S256x512 .f32 := Host.absf main_arg6
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S8x4096x3 .f32) (main_arg1 : FVec F S8x1024x3 .f32) (main_arg2 : FVec F S8x4096x256 .f32) (main_arg3 : FVec F S8x1024x256 .f32) (main_arg4 : FVec F S4 .f32) (main_arg5 : FVec F S1 .f32) (main_arg6 : FVec F S256x512 .f32) (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x1024x3 .f32 := Host.absf main_arg1
  let main_cst_0 : FVec F S_ .f32 := constant S_ .f32 0x7F800000#32
  let main_v5 : FVec F S8x1024x3 .f32 := broadcastInDim S8x1024x3 ![] bcast_S_S8x1024x3 main_cst_0
  let main_v6 : IVec S8x1024x3 1 := cmpf .olt main_v4 main_v5
  let main_c_1 : IVec S_ 1 := constantI S_ 1 1#1
  let main_v7 : IVec S_ 1 := (fun x v => Host.reduce IntOp.andi x v reducesTo_S8x1024x3_S_d0_1_2 h_S_) main_v6 main_c_1
  let main_v8 : IVec S_ 1 := andi main_v3 main_v7
  let main_v9 : FVec F S8x4096x256 .f32 := Host.absf main_arg2
  let main_cst_2 : FVec F S_ .f32 := constant S_ .f32 0x7F800000#32
  let main_v10 : FVec F S8x4096x256 .f32 := broadcastInDim S8x4096x256 ![] bcast_S_S8x4096x256 main_cst_2
  let main_v11 : IVec S8x4096x256 1 := cmpf .olt main_v9 main_v10
  let main_c_3 : IVec S_ 1 := constantI S_ 1 1#1
  let main_v12 : IVec S_ 1 := (fun x v => Host.reduce IntOp.andi x v reducesTo_S8x4096x256_S_d0_1_2 h_S_) main_v11 main_c_3
  let main_v13 : IVec S_ 1 := andi main_v8 main_v12
  let main_v14 : FVec F S8x1024x256 .f32 := Host.absf main_arg3
  let main_cst_4 : FVec F S_ .f32 := constant S_ .f32 0x7F800000#32
  let main_v15 : FVec F S8x1024x256 .f32 := broadcastInDim S8x1024x256 ![] bcast_S_S8x1024x256 main_cst_4
  let main_v16 : IVec S8x1024x256 1 := cmpf .olt main_v14 main_v15
  fn_part1 (F := F) main_arg4 main_arg6 main_arg7 main_arg8 main_arg9 main_arg10 main_arg11 main_v13 main_v16
-- ==== Kernel.lean ====
abbrev S8x4096x3 : Shape := ⟨3, ![8, 4096, 3]⟩
abbrev S8x1024x3 : Shape := ⟨3, ![8, 1024, 3]⟩
abbrev S8x4096x256 : Shape := ⟨3, ![8, 4096, 256]⟩
abbrev S8x1024x256 : Shape := ⟨3, ![8, 1024, 256]⟩
abbrev S4 : Shape := ⟨1, ![4]⟩
abbrev S1 : Shape := ⟨1, ![1]⟩
abbrev S256x512 : Shape := ⟨2, ![256, 512]⟩
abbrev S256 : Shape := ⟨1, ![256]⟩
abbrev S256x256 : Shape := ⟨2, ![256, 256]⟩
abbrev S8x3x1024 : Shape := ⟨3, ![8, 3, 1024]⟩
abbrev S5 : Shape := ⟨1, ![5]⟩
abbrev S512x256 : Shape := ⟨2, ![512, 256]⟩
abbrev S1x256 : Shape := ⟨2, ![1, 256]⟩
abbrev S32768x256 : Shape := ⟨2, ![32768, 256]⟩
abbrev S1x2048x3 : Shape := ⟨3, ![1, 2048, 3]⟩
abbrev S1x3x1024 : Shape := ⟨3, ![1, 3, 1024]⟩
abbrev S1x2048x256 : Shape := ⟨3, ![1, 2048, 256]⟩
abbrev S1x1024x256 : Shape := ⟨3, ![1, 1024, 256]⟩
abbrev S2048x256 : Shape := ⟨2, ![2048, 256]⟩
abbrev S2048x3 : Shape := ⟨2, ![2048, 3]⟩
abbrev S3x1024 : Shape := ⟨2, ![3, 1024]⟩
abbrev S2048 : Shape := ⟨1, ![2048]⟩
abbrev S2048x1 : Shape := ⟨2, ![2048, 1]⟩
abbrev S1024 : Shape := ⟨1, ![1024]⟩
abbrev S1x1024 : Shape := ⟨2, ![1, 1024]⟩
abbrev S2048x1024 : Shape := ⟨2, ![2048, 1024]⟩
abbrev S1024x256 : Shape := ⟨2, ![1024, 256]⟩
abbrev S8192x256 : Shape := ⟨2, ![8192, 256]⟩

abbrev nBuf : Space → Nat
  | .hbm => 32
  | .vmem => 34
  | .smem => 1
  | _ => 0

abbrev bufTy : (tb : Table) → Fin (tcTables nBuf tb) → BufTy
  | .hbm, ⟨0, _⟩ => ⟨S8x4096x3, .f32⟩
  | .hbm, ⟨1, _⟩ => ⟨S8x1024x3, .f32⟩
  | .hbm, ⟨2, _⟩ => ⟨S8x4096x256, .f32⟩
  | .hbm, ⟨3, _⟩ => ⟨S8x1024x256, .f32⟩
  | .hbm, ⟨4, _⟩ => ⟨S4, .f32⟩
  | .hbm, ⟨5, _⟩ => ⟨S1, .f32⟩
  | .hbm, ⟨6, _⟩ => ⟨S256x512, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S8x3x1024, .f32⟩
  | .hbm, ⟨15, _⟩ => ⟨S5, .f32⟩
  | .hbm, ⟨16, _⟩ => ⟨S512x256, .f32⟩
  | .hbm, ⟨17, _⟩ => ⟨S256x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S32768x256, .bf16⟩
  | .hbm, ⟨25, _⟩ => ⟨S1x256, .f32⟩
  | .hbm, ⟨26, _⟩ => ⟨S1x256, .f32⟩
  | .hbm, ⟨27, _⟩ => ⟨S32768x256, .bf16⟩
  | .hbm, ⟨28, _⟩ => ⟨S1x256, .f32⟩
  | .hbm, ⟨29, _⟩ => ⟨S1x256, .f32⟩
  | .hbm, ⟨30, _⟩ => ⟨S32768x256, .f32⟩
  | .hbm, ⟨31, _⟩ => ⟨S8x4096x256, .f32⟩
  | .local _ .vmem, ⟨0, _⟩ => ⟨S1x2048x3, .f32⟩
  | .local _ .vmem, ⟨1, _⟩ => ⟨S1x2048x3, .f32⟩
  | .local _ .vmem, ⟨2, _⟩ => ⟨S1x3x1024, .f32⟩
  | .local _ .vmem, ⟨3, _⟩ => ⟨S1x3x1024, .f32⟩
  | .local _ .vmem, ⟨4, _⟩ => ⟨S1x2048x256, .f32⟩
  | .local _ .vmem, ⟨5, _⟩ => ⟨S1x2048x256, .f32⟩
  | .local _ .vmem, ⟨6, _⟩ => ⟨S1x1024x256, .f32⟩
  | .local _ .vmem, ⟨7, _⟩ => ⟨S1x1024x256, .f32⟩
  | .local _ .vmem, ⟨8, _⟩ => ⟨S512x256, .f32⟩
  | .local _ .vmem, ⟨9, _⟩ => ⟨S1x256, .f32⟩
  | .local _ .vmem, ⟨10, _⟩ => ⟨S2048x256, .bf16⟩
  | .local _ .vmem, ⟨11, _⟩ => ⟨S2048x256, .bf16⟩
  | .local _ .vmem, ⟨12, _⟩ => ⟨S1x256, .f32⟩
  | .local _ .vmem, ⟨13, _⟩ => ⟨S1x256, .f32⟩
  | .local _ .vmem, ⟨14, _⟩ => ⟨S8192x256, .bf16⟩
  | .local _ .vmem, ⟨15, _⟩ => ⟨S8192x256, .bf16⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S8192x256, .bf16⟩
  | .local _ .vmem, ⟨23, _⟩ => ⟨S8192x256, .bf16⟩
  | .local _ .vmem, ⟨24, _⟩ => ⟨S1x256, .f32⟩
  | .local _ .vmem, ⟨25, _⟩ => ⟨S1x256, .f32⟩
  | .local _ .vmem, ⟨26, _⟩ => ⟨S8192x256, .bf16⟩
  | .local _ .vmem, ⟨27, _⟩ => ⟨S8192x256, .bf16⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S8192x256, .f32⟩
  | .local _ .vmem, ⟨33, _⟩ => ⟨S8192x256, .f32⟩
  | .local _ .smem, ⟨0, _⟩ => ⟨S5, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v12 : Ref sig .tc := ⟨.hbm, 30, rfl⟩
abbrev main_v13 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg9_0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24
abbrev cc1_sem8_0 : DmaSem sig := 25
abbrev cc1_sem9_0 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨2, ![8, 2], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8192x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8192x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== KernelIdeal.lean ====
variable {F : FTy → Type} [FloatOps F] [Named F]
def κ : String → Option EReal := fun
  | "third" => some ((1 / 3 : ℝ) : EReal)
  | _ => none
-- ==== ReferenceIdeal.lean ====
abbrev S8x4096x3 : Shape := ⟨3, ![8, 4096, 3]⟩
abbrev S8x1024x3 : Shape := ⟨3, ![8, 1024, 3]⟩
abbrev S8x4096x256 : Shape := ⟨3, ![8, 4096, 256]⟩
abbrev S8x1024x256 : Shape := ⟨3, ![8, 1024, 256]⟩
abbrev S4 : Shape := ⟨1, ![4]⟩
abbrev S1 : Shape := ⟨1, ![1]⟩
abbrev S256x512 : Shape := ⟨2, ![256, 512]⟩
abbrev S256 : Shape := ⟨1, ![256]⟩
abbrev S256x256 : Shape := ⟨2, ![256, 256]⟩
abbrev S8x3x1024 : Shape := ⟨3, ![8, 3, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩
abbrev S8x4096x1024x1 : Shape := ⟨4, ![8, 4096, 1024, 1]⟩
abbrev S1x1x1x1 : Shape := ⟨4, ![1, 1, 1, 1]⟩
abbrev S8x4096x1x3 : Shape := ⟨4, ![8, 4096, 1, 3]⟩
abbrev S8x4096x3x1 : Shape := ⟨4, ![8, 4096, 3, 1]⟩
abbrev S8x4096x3x3 : Shape := ⟨4, ![8, 4096, 3, 3]⟩
abbrev S8x4096x3x4 : Shape := ⟨4, ![8, 4096, 3, 4]⟩
abbrev S8x4096x3x256 : Shape := ⟨4, ![8, 4096, 3, 256]⟩
abbrev S8x4096x512 : Shape := ⟨3, ![8, 4096, 512]⟩
abbrev S8x512x4096 : Shape := ⟨3, ![8, 512, 4096]⟩
abbrev S256x8x4096 : Shape := ⟨3, ![256, 8, 4096]⟩
abbrev S8x256x4096 : Shape := ⟨3, ![8, 256, 4096]⟩
abbrev S1x256x1 : Shape := ⟨3, ![1, 256, 1]⟩

abbrev nBuf : Space → Nat
  | .hbm => 208
  | .vmem => 0
  | .smem => 0
  | _ => 0

abbrev hbmTy0_0 (i : Nat) : BufTy := match i % 128 with
  | 0 => ⟨S8x4096x3, .f32⟩
  | 1 => ⟨S8x1024x3, .f32⟩
  | 2 => ⟨S8x4096x256, .f32⟩
  | 3 => ⟨S8x1024x256, .f32⟩
  | 4 => ⟨S4, .f32⟩
  | 5 => ⟨S1, .f32⟩
  | 6 => ⟨S256x512, .f32⟩
  | 7 => ⟨S256, .f32⟩
  | 8 => ⟨S256, .f32⟩
  | 9 => ⟨S256, .f32⟩
  | 10 => ⟨S256x256, .f32⟩
  | 11 => ⟨S256, .f32⟩
  | 12 => ⟨S256, .f32⟩
  | 13 => ⟨S256, .f32⟩
  | 14 => ⟨S8x3x1024, .f32⟩
  | 15 => ⟨S8x4096x1024, .f32⟩
  | 16 => ⟨S_, .f32⟩
  | 17 => ⟨S8x4096x1024, .f32⟩
  | 18 => ⟨S8x4096x1024, .f32⟩
  | 19 => ⟨S8x4096x3, .f32⟩
  | 20 => ⟨S_, .f32⟩
  | 21 => ⟨S8x4096, .f32⟩
  | 22 => ⟨S8x4096x1, .f32⟩
  | 23 => ⟨S8x4096x1024, .f32⟩
  | 24 => ⟨S8x4096x1024, .f32⟩
  | 25 => ⟨S8x1024x3, .f32⟩
  | 26 => ⟨S_, .f32⟩
  | 27 => ⟨S8x1024, .f32⟩
  | 28 => ⟨S8x1x1024, .f32⟩
  | 29 => ⟨S8x4096x1024, .f32⟩
  | 30 => ⟨S8x4096x1024, .f32⟩
  | 31 => ⟨S8x4096x1024, .i32⟩
  | 32 => ⟨S8x4096x1024, .f32⟩
  | 33 => ⟨S8x4096x1024, .i32⟩
  | 34 => ⟨S_, .i32⟩
  | 35 => ⟨S8x4096x1024, .i32⟩
  | 36 => ⟨S8x4096x1024, .i1⟩
  | 37 => ⟨S_, .i32⟩
  | 38 => ⟨S8x4096x1024, .i32⟩
  | 39 => ⟨S8x4096x1024, .i32⟩
  | 40 => ⟨S8x4096x1024, .i32⟩
  | 41 => ⟨S8x4096x1024x1, .i32⟩
  | 42 => ⟨S1, .i32⟩
  | 43 => ⟨S_, .i32⟩
  | 44 => ⟨S8x4096x1024x1, .i32⟩
  | 45 => ⟨S8x4096x1024x1, .i1⟩
  | 46 => ⟨S1x1x1x1, .i32⟩
  | 47 => ⟨S8x4096x1024x1, .i32⟩
  | 48 => ⟨S8x4096x1024x1, .i1⟩
  | 49 => ⟨S8x4096x1024x1, .i1⟩
  | 50 => ⟨S_, .i1⟩
  | 51 => ⟨S8x4096x1024, .i1⟩
  | 52 => ⟨S8x4096x1024, .f32⟩
  | 53 => ⟨S_, .f32⟩
  | 54 => ⟨S8x4096x1024, .f32⟩
  | 55 => ⟨S8x4096x1024, .f32⟩
  | 56 => ⟨S8x4096x3, .f32⟩
  | 57 => ⟨S8x4096x3, .i32⟩
  | 58 => ⟨S8x4096x1x3, .f32⟩
  | 59 => ⟨S_, .i32⟩
  | 60 => ⟨S8x4096x3, .i32⟩
  | 61 => ⟨S8x4096x3, .i1⟩
  | 62 => ⟨S_, .i32⟩
  | 63 => ⟨S8x4096x3, .i32⟩
  | 64 => ⟨S8x4096x3, .i32⟩
  | 65 => ⟨S8x4096x3, .i32⟩
  | 66 => ⟨S8x4096x3x1, .i32⟩
  | 67 => ⟨S8x4096x3x3, .f32⟩
  | 68 => ⟨S8x4096x3x3, .f32⟩
  | 69 => ⟨S8x4096x3x3, .f32⟩
  | 70 => ⟨S8x4096x3x1, .f32⟩
  | 71 => ⟨S8x4096x3x4, .f32⟩
  | 72 => ⟨S8x4096x3, .f32⟩
  | 73 => ⟨S_, .f32⟩
  | 74 => ⟨S8x4096x3, .f32⟩
  | 75 => ⟨S8x4096x3, .f32⟩
  | 76 => ⟨S8x4096x3, .f32⟩
  | 77 => ⟨S8x4096x3, .f32⟩
  | 78 => ⟨S_, .f32⟩
  | 79 => ⟨S8x4096x3, .f32⟩
  | 80 => ⟨S8x4096x3, .f32⟩
  | 81 => ⟨S_, .f32⟩
  | 82 => ⟨S8x4096x3, .f32⟩
  | 83 => ⟨S8x4096x3, .f32⟩
  | 84 => ⟨S_, .i32⟩
  | 85 => ⟨S8x4096x3, .i32⟩
  | 86 => ⟨S8x4096x3, .i1⟩
  | 87 => ⟨S_, .i32⟩
  | 88 => ⟨S8x4096x3, .i32⟩
  | 89 => ⟨S8x4096x3, .i32⟩
  | 90 => ⟨S8x4096x3, .i32⟩
  | 91 => ⟨S8x4096x3x1, .i32⟩
  | 92 => ⟨S8x4096x3x256, .f32⟩
  | 93 => ⟨S8x4096x3x1, .f32⟩
  | 94 => ⟨S8x4096x3x256, .f32⟩
  | 95 => ⟨S8x4096x3x256, .f32⟩
  | 96 => ⟨S_, .f32⟩
  | 97 => ⟨S8x4096x256, .f32⟩
  | 98 => ⟨S_, .f32⟩
  | 99 => ⟨S8x4096x256, .f32⟩
  | 100 => ⟨S8x4096x256, .f32⟩
  | 101 => ⟨S8x4096x512, .f32⟩
  | 102 => ⟨S8x512x4096, .f32⟩
  | 103 => ⟨S256x8x4096, .f32⟩
  | 104 => ⟨S8x256x4096, .f32⟩
  | 105 => ⟨S1x256x1, .f32⟩
  | 106 => ⟨S8x256x4096, .f32⟩
  | 107 => ⟨S8x256x4096, .f32⟩
  | 108 => ⟨S_, .f32⟩
  | 109 => ⟨S256, .f32⟩
  | 110 => ⟨S1x256x1, .f32⟩
  | 111 => ⟨S_, .f32⟩
  | 112 => ⟨S1x256x1, .f32⟩
  | 113 => ⟨S1x256x1, .f32⟩
  | 114 => ⟨S_, .i32⟩
  | 115 => ⟨S_, .f32⟩
  | 116 => ⟨S256, .f32⟩
  | 117 => ⟨S1x256x1, .f32⟩
  | 118 => ⟨S_, .f32⟩
  | 119 => ⟨S1x256x1, .f32⟩
  | 120 => ⟨S1x256x1, .f32⟩
  | 121 => ⟨S8x256x4096, .f32⟩
  | 122 => ⟨S8x256x4096, .f32⟩
  | 123 => ⟨S8x256x4096, .f32⟩
  | 124 => ⟨S_, .f32⟩
  | 125 => ⟨S_, .f32⟩
  | 126 => ⟨S_, .f32⟩
  | 127 => ⟨S_, .f32⟩
  | _ => ⟨S8x4096x3, .f32⟩

abbrev hbmTy0_1 (i : Nat) : BufTy := match i % 128 with
  | 0 => ⟨S256, .f32⟩
  | 1 => ⟨S1x256x1, .f32⟩
  | 2 => ⟨S1x256x1, .f32⟩
  | 3 => ⟨S1x256x1, .f32⟩
  | 4 => ⟨S_, .f32⟩
  | 5 => ⟨S_, .i1⟩
  | 6 => ⟨S_, .f32⟩
  | 7 => ⟨S_, .f32⟩
  | 8 => ⟨S1x256x1, .f32⟩
  | 9 => ⟨S1x256x1, .f32⟩
  | 10 => ⟨S8x256x4096, .f32⟩
  | 11 => ⟨S8x256x4096, .f32⟩
  | 12 => ⟨S_, .f32⟩
  | 13 => ⟨S1x256x1, .f32⟩
  | 14 => ⟨S1x256x1, .f32⟩
  | 15 => ⟨S1x256x1, .f32⟩
  | 16 => ⟨S8x256x4096, .f32⟩
  | 17 => ⟨S8x256x4096, .f32⟩
  | 18 => ⟨S1x256x1, .f32⟩
  | 19 => ⟨S8x256x4096, .f32⟩
  | 20 => ⟨S8x256x4096, .f32⟩
  | 21 => ⟨S1x256x1, .f32⟩
  | 22 => ⟨S8x256x4096, .f32⟩
  | 23 => ⟨S8x256x4096, .f32⟩
  | 24 => ⟨S_, .f32⟩
  | 25 => ⟨S8x256x4096, .f32⟩
  | 26 => ⟨S8x256x4096, .f32⟩
  | 27 => ⟨S256x8x4096, .f32⟩
  | 28 => ⟨S8x256x4096, .f32⟩
  | 29 => ⟨S1x256x1, .f32⟩
  | 30 => ⟨S8x256x4096, .f32⟩
  | 31 => ⟨S8x256x4096, .f32⟩
  | 32 => ⟨S_, .f32⟩
  | 33 => ⟨S256, .f32⟩
  | 34 => ⟨S1x256x1, .f32⟩
  | 35 => ⟨S_, .f32⟩
  | 36 => ⟨S1x256x1, .f32⟩
  | 37 => ⟨S1x256x1, .f32⟩
  | 38 => ⟨S_, .i32⟩
  | 39 => ⟨S_, .f32⟩
  | 40 => ⟨S256, .f32⟩
  | 41 => ⟨S1x256x1, .f32⟩
  | 42 => ⟨S_, .f32⟩
  | 43 => ⟨S1x256x1, .f32⟩
  | 44 => ⟨S1x256x1, .f32⟩
  | 45 => ⟨S8x256x4096, .f32⟩
  | 46 => ⟨S8x256x4096, .f32⟩
  | 47 => ⟨S8x256x4096, .f32⟩
  | 48 => ⟨S_, .f32⟩
  | 49 => ⟨S_, .f32⟩
  | 50 => ⟨S_, .f32⟩
  | 51 => ⟨S_, .f32⟩
  | 52 => ⟨S256, .f32⟩
  | 53 => ⟨S1x256x1, .f32⟩
  | 54 => ⟨S1x256x1, .f32⟩
  | 55 => ⟨S1x256x1, .f32⟩
  | 56 => ⟨S_, .f32⟩
  | 57 => ⟨S_, .i1⟩
  | 58 => ⟨S_, .f32⟩
  | 59 => ⟨S_, .f32⟩
  | 60 => ⟨S1x256x1, .f32⟩
  | 61 => ⟨S1x256x1, .f32⟩
  | 62 => ⟨S8x256x4096, .f32⟩
  | 63 => ⟨S8x256x4096, .f32⟩
  | 64 => ⟨S_, .f32⟩
  | 65 => ⟨S1x256x1, .f32⟩
  | 66 => ⟨S1x256x1, .f32⟩
  | 67 => ⟨S1x256x1, .f32⟩
  | 68 => ⟨S8x256x4096, .f32⟩
  | 69 => ⟨S8x256x4096, .f32⟩
  | 70 => ⟨S1x256x1, .f32⟩
  | 71 => ⟨S8x256x4096, .f32⟩
  | 72 => ⟨S8x256x4096, .f32⟩
  | 73 => ⟨S1x256x1, .f32⟩
  | 74 => ⟨S8x256x4096, .f32⟩
  | 75 => ⟨S8x256x4096, .f32⟩
  | 76 => ⟨S_, .f32⟩
  | 77 => ⟨S8x256x4096, .f32⟩
  | 78 => ⟨S8x256x4096, .f32⟩
  | 79 => ⟨S8x4096x256, .f32⟩
  | _ => ⟨S8x4096x3, .f32⟩

abbrev hbmTy (i : Nat) : BufTy := match i / 128 with
  | 0 => hbmTy0_0 i
  | 1 => hbmTy0_1 i
  | _ => ⟨S8x4096x3, .f32⟩

abbrev bufTy : (tb : Table) → Fin (tcTables nBuf tb) → BufTy
  | .hbm, ⟨i, _⟩ => hbmTy i
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call0_v0 : Ref sig .tc := ⟨.hbm, 31, rfl⟩
abbrev main_call0_v1_0 : Ref sig .tc := ⟨.hbm, 32, rfl⟩
abbrev main_v14 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c : Ref sig .tc := ⟨.hbm, 59, rfl⟩
abbrev main_v19 : Ref sig .tc := ⟨.hbm, 60, rfl⟩
abbrev main_v20 : Ref sig .tc := ⟨.hbm, 61, rfl⟩
abbrev main_c_2 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_3 : Ref sig .tc := ⟨.hbm, 78, rfl⟩
abbrev main_v36 : Ref sig .tc := ⟨.hbm, 79, rfl⟩
abbrev main_v37 : Ref sig .tc := ⟨.hbm, 80, rfl⟩
abbrev main_cst_4 : Ref sig .tc := ⟨.hbm, 81, rfl⟩
abbrev main_v38 : Ref sig .tc := ⟨.hbm, 82, rfl⟩
abbrev main_v39 : Ref sig .tc := ⟨.hbm, 83, rfl⟩
abbrev main_c_5 : Ref sig .tc := ⟨.hbm, 84, rfl⟩
abbrev main_v40 : Ref sig .tc := ⟨.hbm, 85, rfl⟩
abbrev main_v41 : Ref sig .tc := ⟨.hbm, 86, rfl⟩
abbrev main_c_6 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_7 : Ref sig .tc := ⟨.hbm, 96, rfl⟩
abbrev main_v50 : Ref sig .tc := ⟨.hbm, 97, rfl⟩
abbrev main_cst_8 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_9 : Ref sig .tc := ⟨.hbm, 108, rfl⟩
abbrev main_v60 : Ref sig .tc := ⟨.hbm, 109, rfl⟩
abbrev main_v61 : Ref sig .tc := ⟨.hbm, 110, rfl⟩
abbrev main_cst_10 : Ref sig .tc := ⟨.hbm, 111, rfl⟩
abbrev main_v62 : Ref sig .tc := ⟨.hbm, 112, rfl⟩
abbrev main_v63 : Ref sig .tc := ⟨.hbm, 113, rfl⟩
abbrev main_c_11 : Ref sig .tc := ⟨.hbm, 114, rfl⟩
abbrev main_call2_cst : Ref sig .tc := ⟨.hbm, 115, rfl⟩
abbrev main_call2_v0 : Ref sig .tc := ⟨.hbm, 116, rfl⟩
abbrev main_call2_v1 : Ref sig .tc := ⟨.hbm, 117, rfl⟩
abbrev main_call2_cst_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_v6 : Ref sig .tc := ⟨.hbm, 123, rfl⟩
abbrev main_call2_v7 : Ref sig .tc := ⟨.hbm, 124, rfl⟩
abbrev main_call2_cst_1 : Ref sig .tc := ⟨.hbm, 125, rfl⟩
abbrev main_call2_v8 : Ref sig .tc := ⟨.hbm, 126, rfl⟩
abbrev main_call2_cst_2 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_v12 : Ref sig .tc := ⟨.hbm, 131, rfl⟩
abbrev main_call2_cst_3 : Ref sig .tc := ⟨.hbm, 132, rfl⟩
abbrev main_call2_v13 : Ref sig .tc := ⟨.hbm, 133, rfl⟩
abbrev main_call2_cst_4 : Ref sig .tc := ⟨.hbm, 134, rfl⟩
abbrev main_call2_call0_v0 : Ref sig .tc := ⟨.hbm, 135, rfl⟩
abbrev main_call2_call0_v1 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_12 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_call3_cst : Ref sig .tc := ⟨.hbm, 152, rfl⟩
abbrev main_call3_v0 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_cst_13 : Ref sig .tc := ⟨.hbm, 160, rfl⟩
abbrev main_v84 : Ref sig .tc := ⟨.hbm, 161, rfl⟩
abbrev main_v85 : Ref sig .tc := ⟨.hbm, 162, rfl⟩
abbrev main_cst_14 : Ref sig .tc := ⟨.hbm, 163, rfl⟩
abbrev main_v86 : Ref sig .tc := ⟨.hbm, 164, rfl⟩
abbrev main_v87 : Ref sig .tc := ⟨.hbm, 165, rfl⟩
abbrev main_c_15 : Ref sig .tc := ⟨.hbm, 166, rfl⟩
abbrev main_call4_cst : Ref sig .tc := ⟨.hbm, 167, rfl⟩
abbrev main_call4_v0 : Ref sig .tc := ⟨.hbm, 168, rfl⟩
abbrev main_call4_v1 : Ref sig .tc := ⟨.hbm, 169, rfl⟩
abbrev main_call4_cst_0 : Ref sig .tc := ⟨.hbm, 170, rfl⟩
abbrev main_call4_v2 : Ref sig .tc := ⟨.hbm, 171, rfl⟩
abbrev main_call4_v3 : Ref sig .tc := ⟨.hbm, 172, rfl⟩
abbrev main_call4_v4 : Ref sig .tc := ⟨.hbm, 173, rfl⟩
abbrev main_call4_v5 : Ref sig .tc := ⟨.hbm, 174, rfl⟩
abbrev main_call4_v6 : Ref sig .tc := ⟨.hbm, 175, rfl⟩
abbrev main_call4_v7 : Ref sig .tc := ⟨.hbm, 176, rfl⟩
abbrev main_call4_cst_1 : Ref sig .tc := ⟨.hbm, 177, rfl⟩
abbrev main_call4_v8 : Ref sig .tc := ⟨.hbm, 178, rfl⟩
abbrev main_call4_cst_2 : Ref sig .tc := ⟨.hbm, 179, rfl⟩
abbrev main_call4_v9 : Ref sig .tc := ⟨.hbm, 180, rfl⟩
abbrev main_call4_v10 : Ref sig .tc := ⟨.hbm, 181, rfl⟩
abbrev main_call4_v11 : Ref sig .tc := ⟨.hbm, 182, rfl⟩
abbrev main_call4_v12 : Ref sig .tc := ⟨.hbm, 183, rfl⟩
abbrev main_call4_cst_3 : Ref sig .tc := ⟨.hbm, 184, rfl⟩
abbrev main_call4_v13 : Ref sig .tc := ⟨.hbm, 185, rfl⟩
abbrev main_call4_cst_4 : Ref sig .tc := ⟨.hbm, 186, rfl⟩
abbrev main_call4_call0_v0 : Ref sig .tc := ⟨.hbm, 187, rfl⟩
abbrev main_call4_call0_v1 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_cst_16 : Ref sig .tc := ⟨.hbm, 192, rfl⟩
abbrev main_v91 : Ref sig .tc := ⟨.hbm, 193, rfl⟩
abbrev main_v92 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_v101 : Ref sig .tc := ⟨.hbm, 203, rfl⟩
abbrev main_call5_cst : Ref sig .tc := ⟨.hbm, 204, rfl⟩
abbrev main_call5_v0 : Ref sig .tc := ⟨.hbm, 205, rfl⟩
abbrev main_v102 : Ref sig .tc := ⟨.hbm, 206, rfl⟩
abbrev main_v103 : Ref sig .tc := ⟨.hbm, 207, rfl⟩

abbrev nD : Nat := 1
abbrev τ : Topo := Topo.v7x

variable {F : FTy → Type} [FloatOps F]
-- ==== Proof.KRun.lean ====
module

public import proofs.«01_k».proof.Proof.Gen.KernelIdeal.Frame

/-! # The kernel's run

Every weakly fair execution of the idealized kernel ends, and what it leaves in its result array is the last boundary's
contents of that array.  The launch is the frame's own; only the conclusion also names the result. -/

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel ends with its result array at the last boundary's contents and its arguments as launched. -/
theorem kernel_run : θ_run defs (onTc (τ := τ) (main (F := F))) ⟨m, fun _ => 0, ρ⟩ (fun r => ∀ c : Dev nD,
      r.2.mem ((c.tc : Thread nD τ).loc main_v13) = W5 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v13 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c)⟩)

end Cert.Proof

end
end
-- ==== Proof.Consts.lean ====
module

public import proofs.«01_k».proof.Proof.Gen.KernelIdeal.Skeleton
public import Idealize.ShloMosaic.Lib.Pointwise

/-! # The constants of the two programs, as extended reals

Each literal is the exact value of its word; the third is the named real number. -/

@[expose] public section

noncomputable section

namespace Cert.Proof

open Cert.KernelIdeal Idealize.ShloMosaic

/-- The word of positive infinity. -/
theorem word_top : Ideal.ofBits .f32 0x7F800000#32 = ⊤ := by
  simp [Ideal.ofBits, Ideal.ieee]

/-- The word of 1024, above every place of a row. -/
theorem word_1024 : Ideal.ofBits .f32 0x44800000#32 = ((1024 : ℝ) : EReal) := by
  simp [Ideal.ofBits, Ideal.ieee, -EReal.coe_mul]
  norm_num

/-- The word of minus two. -/
theorem word_neg_two : Ideal.ofBits .f32 0xC0000000#32 = ((-2 : ℝ) : EReal) := by
  simp [Ideal.ofBits, Ideal.ieee, -EReal.coe_mul]
  norm_num

/-- The word of two. -/
theorem word_two : Ideal.ofBits .f32 0x40000000#32 = ((2 : ℝ) : EReal) := by
  simp [Ideal.ofBits, Ideal.ieee, -EReal.coe_mul]
  norm_num

/-- The word of three. -/
theorem word_three : Ideal.ofBits .f32 0x40400000#32 = ((3 : ℝ) : EReal) := by
  simp [Ideal.ofBits, Ideal.ieee, -EReal.coe_mul]
  norm_num

/-- The word of 1/32768, a power of two. -/
theorem word_inv_count : Ideal.ofBits .f32 0x38000000#32 = ((1 / 32768 : ℝ) : EReal) := by
  simp [Ideal.ofBits, Ideal.ieee, -EReal.coe_mul]
  norm_num

/-- The word of 32768. -/
theorem word_count : Ideal.ofBits .f32 0x47000000#32 = ((32768 : ℝ) : EReal) := by
  simp [Ideal.ofBits, Ideal.ieee, -EReal.coe_mul]
  norm_num

/-- The offset under the root, as a real number: the exact value of its word. -/
def eps : ℝ := 10995116 / 2 ^ 40

theorem word_eps : Ideal.ofBits .f32 0x3727C5AC#32 = ((eps : ℝ) : EReal) := by
  unfold eps
  simp [Ideal.ofBits, Ideal.ieee, -EReal.coe_mul]
  norm_num

theorem eps_pos : 0 < eps := by
  unfold eps
  norm_num

/-- The kernel's named third. -/
theorem named_third : (Named.named (F := Ideal) κ "third" (φ := .f32) 0x3EAAAAAB#32 : Ideal .f32) = ((1 / 3 : ℝ) : EReal) := by
  rfl

end Cert.Proof

end
end
-- ==== Proof.Norm.lean ====
module

public import proofs.«01_k».proof.Proof.Consts

/-! # The normalisation of a layer, as the kernel computes it

From the sum `s` and the sum of squares `q` of a column over all 32768 rows, the scale `g` and the shift `b`: the value `z`
less the mean, times the scale over the root of the variance, plus the shift, cut at zero. -/

@[expose] public section

noncomputable section

namespace Cert.Proof

open Idealize.ShloMosaic

/-- The normalised value of `z`, cut at zero. -/
def act (z s q g b : EReal) : EReal :=
  max ((z - s * ((1 / 32768 : ℝ) : EReal))
      * (g * Ideal.rsqrt (q * ((1 / 32768 : ℝ) : EReal) - s * ((1 / 32768 : ℝ) : EReal) * (s * ((1 / 32768 : ℝ) : EReal)) + (eps : EReal)))
      + b) 0

end Cert.Proof

end
end
-- ==== Proof.Pick.lean ====
/- The choice of the three nearest points, as a statement about one row of distances.
   `Nearest d a` says that `a 0`, `a 1`, `a 2` are the places of the three least values of the row `d`, in order, ties
   taken by the smaller place. One side of the certificate finds them by a stable sort (`nearest_sorted`), the other by
   three rounds of "the least value, the first place that holds it, that place overwritten by `⊤`" (`FirstMin`). -/
module

public import Idealize.ShloMosaic.Lib.SortPrefix
public import Mathlib.Data.EReal.Basic
public import Mathlib.Data.EReal.Operations
public import Mathlib.Data.Finset.Fold
public import Mathlib.Data.Finset.Lattice.Fold
public import Mathlib.Algebra.BigOperators.Group.Finset.Piecewise

@[expose] public section

noncomputable section

namespace Cert.Proof

open Idealize.ShloMosaic

/-- Place `a` comes no later than place `s` when the row is ordered by value, then by place. -/
def NoLater {n : ℕ} (d : Fin n → EReal) (a s : Fin n) : Prop := d a < d s ∨ (d a = d s ∧ a ≤ s)

/-- `a` is the first place that holds the least value of the row. -/
def FirstMin {n : ℕ} (c : Fin n → EReal) (a : Fin n) : Prop := ∀ s, NoLater c a s

/-- `a` lists the first `k` places of the row ordered by value, then by place. -/
structure Nearest {n k : ℕ} (d : Fin n → EReal) (a : Fin k → Fin n) : Prop where
  inj : Function.Injective a
  least : ∀ k s, (∀ j, j < k → s ≠ a j) → NoLater d (a k) s

/-! ### The stable sort -/

/-- In a list whose places increase, a stable insertion by the value alone is one by value, then place. -/
theorem insertBefore_lex {n : ℕ} (d : Fin n → EReal) (a : Fin n) (l : List (Fin n)) (h : ∀ b ∈ l, a < b) :
    insertBefore (fun k k' => decide (d k < d k')) a l
      = insertBefore (fun k k' => decide (d k < d k') || (decide (d k = d k') && decide (k < k'))) a l := by
  induction l with
  | nil => rfl
  | cons b l ih =>
    have hb : ¬ b < a := not_lt.mpr (h b List.mem_cons_self).le
    unfold insertBefore
    rw [ih fun c hc => h c (List.mem_cons_of_mem b hc)]
    simp [hb]

theorem stableSort_lex {n : ℕ} (d : Fin n → EReal) (l : List (Fin n)) (h : l.Pairwise (· < ·)) :
    stableSort (fun k k' => decide (d k < d k')) l
      = stableSort (fun k k' => decide (d k < d k') || (decide (d k = d k') && decide (k < k'))) l := by
  induction l with
  | nil => rfl
  | cons a l ih =>
    rw [List.pairwise_cons] at h
    unfold stableSort
    rw [ih h.2, insertBefore_lex]
    exact fun b hb => h.1 b ((perm_stableSort _ l).mem_iff.mp hb)

/-- The order by value, then by place, is a strict total order on the places. -/
theorem lex_strictTotal {n : ℕ} (d : Fin n → EReal) : StrictTotalBefore fun k k' : Fin n =>
    decide (d k < d k') || (decide (d k = d k') && decide (k < k')) :=
  StrictTotalBefore.of_key_then_position (fun x y : EReal => decide (x < y)) d (fun a => by simp)
    (fun a b c h₁ h₂ => by simp only [decide_eq_true_eq] at *; exact lt_trans h₁ h₂)
    (fun a b => by simp only [decide_eq_true_eq]; exact lt_trichotomy a b)

theorem not_lex_iff {n : ℕ} (d : Fin n → EReal) (a s : Fin n) :
    (decide (d s < d a) || (decide (d s = d a) && decide (s < a))) = false ↔ NoLater d a s := by
  unfold NoLater
  simp only [Bool.or_eq_false_iff, decide_eq_false_iff_not, Bool.and_eq_false_iff, not_lt]
  constructor
  · rintro ⟨h₁, h₂⟩
    rcases lt_or_eq_of_le h₁ with h | h
    · exact Or.inl h
    · exact Or.inr ⟨h, h₂.resolve_left fun h' => h' h.symm⟩
  · rintro (h | ⟨h, h'⟩)
    · exact ⟨h.le, Or.inl h.ne'⟩
    · exact ⟨h.le, Or.inr h'⟩

/-- The first places of the stable sort by value are the nearest ones. -/
theorem nearest_sorted {n k : ℕ} (d : Fin n → EReal) (hk : k ≤ n) :
    Nearest d fun i : Fin k => sortedFrom (fun k k' => decide (d k < d k')) (i.castLE hk) := by
  have e : sortedFrom (fun k k' : Fin n => decide (d k < d k'))
      = sortedFrom fun k k' => decide (d k < d k') || (decide (d k = d k') && decide (k < k')) := by
    funext i
    unfold sortedFrom
    rw [List.get_of_eq (show sortPositions n _ = _ from stableSort_lex d _ (List.pairwise_lt_finRange n))]
    rfl
  rw [e]
  refine ⟨fun i j h => ?_, fun i s h => ?_⟩
  · have := sortedFrom_injective _ h
    exact Fin.ext (by simpa [Fin.ext_iff] using this)
  · obtain ⟨j, rfl⟩ := sortedFrom_surjective
      (fun k k' : Fin n => decide (d k < d k') || (decide (d k = d k') && decide (k < k'))) s
    have hij : i.castLE hk ≤ j := by
      by_contra hlt
      have hlt : j < i.castLE hk := not_le.mp hlt
      have hj : j.val < k := lt_trans (Fin.lt_def.mp hlt) i.isLt
      exact h ⟨j.val, hj⟩ (Fin.lt_def.mpr (Fin.lt_def.mp hlt)) rfl
    rcases hij.lt_or_eq with hlt | heq
    · have H := lex_strictTotal d
      exact (not_lex_iff d _ _).mp (sortedFrom_noInversion _ _ (fun a b => H.asymm a b) (fun _ _ h => h)
        H.negTrans _ _ hlt)
    · rw [heq]; exact Or.inr ⟨rfl, le_rfl⟩

/-! ### Three rounds of least value and first place -/

/-- The row with the value at `a` overwritten by `⊤`. -/
def strike {n : ℕ} (a : Fin n) (c : Fin n → EReal) : Fin n → EReal := fun s => if s = a then ⊤ else c s

theorem firstMin_zero {n : ℕ} {d : Fin n → EReal} {a : Fin 3 → Fin n} (h : Nearest d a) : FirstMin d (a 0) :=
  fun s => h.least 0 s fun j hj => absurd hj (by simp)

theorem firstMin_one {n : ℕ} {d : Fin n → EReal} {a : Fin 3 → Fin n} (h : Nearest d a) (hd : ∀ s, d s < ⊤) :
    FirstMin (strike (a 0) d) (a 1) := by
  intro s
  have h10 : a 1 ≠ a 0 := fun e => absurd (h.inj e) (by decide)
  unfold NoLater strike
  rw [if_neg h10]
  by_cases hs : s = a 0
  · rw [if_pos hs]; exact Or.inl (hd _)
  · rw [if_neg hs]
    refine h.least 1 s fun j hj => ?_
    have : j = 0 := by revert hj; revert j; decide
    rw [this]; exact hs

theorem firstMin_two {n : ℕ} {d : Fin n → EReal} {a : Fin 3 → Fin n} (h : Nearest d a) (hd : ∀ s, d s < ⊤) :
    FirstMin (strike (a 1) (strike (a 0) d)) (a 2) := by
  intro s
  have h20 : a 2 ≠ a 0 := fun e => absurd (h.inj e) (by decide)
  have h21 : a 2 ≠ a 1 := fun e => absurd (h.inj e) (by decide)
  unfold NoLater strike
  rw [if_neg h21, if_neg h20]
  by_cases hs1 : s = a 1
  · rw [if_pos hs1]; exact Or.inl (hd _)
  by_cases hs : s = a 0
  · rw [if_neg hs1, if_pos hs]; exact Or.inl (hd _)
  · rw [if_neg hs1, if_neg hs]
    refine h.least 2 s fun j hj => ?_
    have : j = 0 ∨ j = 1 := by revert hj; revert j; decide
    rcases this with rfl | rfl
    · exact hs
    · exact hs1

/-- The least value of the row is the one at its first place. -/
theorem FirstMin.fold_min {n : ℕ} {c : Fin n → EReal} {a : Fin n} (h : FirstMin c a) :
    Finset.univ.fold min (⊤ : EReal) c = c a := by
  apply le_antisymm
  · exact (Finset.fold_min_le (c a)).mpr (Or.inr ⟨a, Finset.mem_univ a, le_rfl⟩)
  · refine (Finset.le_fold_min (c a)).mpr ⟨le_top, fun s _ => ?_⟩
    rcases h s with h | h
    · exact h.le
    · exact h.1.le

/-- The numbers of the places that hold the least value, `1024` at every other place. -/
theorem FirstMin.cand {n : ℕ} {c : Fin n → EReal} {a : Fin n} (h : FirstMin c a) (N : EReal)
    (hN : ∀ s : Fin n, ((s.val : ℝ) : EReal) < N) :
    FirstMin (fun s => if c s = c a then ((s.val : ℝ) : EReal) else N) a := by
  intro s
  unfold NoLater
  dsimp only
  rw [if_pos rfl]
  rcases h s with h | ⟨h, h'⟩
  · rw [if_neg h.ne']; exact Or.inl (hN a)
  · rw [if_pos h.symm]
    rcases h'.lt_or_eq with h' | h'
    · exact Or.inl (by exact_mod_cast (Fin.lt_def.mp h'))
    · rw [h']; exact Or.inr ⟨rfl, le_rfl⟩

/-- Only the first place holds its own number. -/
theorem FirstMin.mask {n : ℕ} {c : Fin n → EReal} {a : Fin n} (_h : FirstMin c a) (N : EReal)
    (hN : ∀ s : Fin n, ((s.val : ℝ) : EReal) < N) (s : Fin n) :
    ((if c s = c a then ((s.val : ℝ) : EReal) else N) = ((a.val : ℝ) : EReal)) ↔ s = a := by
  constructor
  · intro h
    by_cases hs : c s = c a
    · rw [if_pos hs] at h
      have : (s.val : ℝ) = (a.val : ℝ) := by exact_mod_cast h
      exact Fin.ext (by exact_mod_cast this)
    · rw [if_neg hs] at h
      exact absurd h (hN a).ne'
  · rintro rfl; rw [if_pos rfl]

/-! ### Sums against the three places -/

theorem sum_pick {n : ℕ} (a : Fin n) (f : Fin n → EReal) : (∑ s, if s = a then f s else 0) = f a := by
  rw [Finset.sum_ite_eq' Finset.univ a f, if_pos (Finset.mem_univ a)]

/-- A row that is zero but at three different places, against a row: three products. -/
theorem sum_three {n : ℕ} {a : Fin 3 → Fin n} (ha : Function.Injective a) (w : Fin 3 → EReal) (f : Fin n → EReal) :
    (∑ s, (if s = a 2 then w 2 else if s = a 1 then w 1 else if s = a 0 then w 0 else 0) * f s)
      = ∑ k, w k * f (a k) := by
  have h10 : a 1 ≠ a 0 := fun e => absurd (ha e) (by decide)
  have h20 : a 2 ≠ a 0 := fun e => absurd (ha e) (by decide)
  have h21 : a 2 ≠ a 1 := fun e => absurd (ha e) (by decide)
  have : ∀ s, (if s = a 2 then w 2 else if s = a 1 then w 1 else if s = a 0 then w 0 else 0) * f s
      = ((if s = a 0 then w 0 * f s else 0) + (if s = a 1 then w 1 * f s else 0))
        + (if s = a 2 then w 2 * f s else 0) := by
    intro s
    by_cases h2 : s = a 2
    · subst h2; simp [h20, h21]
    by_cases h1 : s = a 1
    · subst h1; simp [h10, h2]
    by_cases h0 : s = a 0
    · subst h0; simp [h1, h2]
    · simp [h0, h1, h2]
  simp only [this, Finset.sum_add_distrib, sum_pick, Fin.sum_univ_three]

end Cert.Proof

end

end
-- ==== Proof.KRow.lean ====
module

public import proofs.«01_k».proof.Proof.Gen.KernelIdeal.Skeleton
public import proofs.«01_k».proof.Proof.Pick
public import proofs.«01_k».proof.Proof.Consts
public import Idealize.ShloMosaic.Lib.Pointwise

/-! # One block of the first kernel, read at a place

The first kernel finds, for each row, the three nearest columns in three rounds.  Each round takes the least value, then
the first place that holds it, marks that place and strikes it out.  Here its marks are read: the weight row it builds is
zero but at the three places, where it holds their weights. -/

@[expose] public section

noncomputable section

namespace Cert.Proof

open Cert.KernelIdeal Idealize.ShloMosaic

/-- A place as the value the kernel compares. -/
def place {n : ℕ} (s : Fin n) : EReal := ((s.val : ℝ) : EReal)

theorem place_lt (s : Fin 1024) : place s < ((1024 : ℝ) : EReal) := by
  unfold place
  exact_mod_cast s.isLt

/-- The mark of one round: the test that singles out the first place of the least value. -/
theorem round_mark {c : Fin 1024 → EReal} {a : Fin 1024} (h : FirstMin c a) (s : Fin 1024) :
    ((if c s = Finset.univ.fold min (⊤ : EReal) c then place s else ((1024 : ℝ) : EReal))
      = Finset.univ.fold min (⊤ : EReal)
          (fun x => if c x = Finset.univ.fold min (⊤ : EReal) c then place x else ((1024 : ℝ) : EReal)))
      = (s = a) := by
  rw [h.fold_min]
  have e := (h.cand ((1024 : ℝ) : EReal) place_lt).fold_min
  rw [if_pos rfl] at e
  exact propext ((h.mask ((1024 : ℝ) : EReal) place_lt s).trans Iff.rfl |> fun k => by
    rw [← k]
    unfold place
    rw [e])

/-- The kernel's row of places. -/
theorem pay9_apply (r : Fin 2048) (s : Fin 1024) : Gen.k0_pay9 (F := Ideal) (ix2 r s) = place s := by
  unfold Gen.k0_pay9
  pointwise
  show (((BitVec.ofNat 32 s.val).toInt : ℝ) : EReal) = ((s.val : ℝ) : EReal)
  have : (BitVec.ofNat 32 s.val).toInt = (s.val : ℤ) := by
    rw [BitVec.toInt_eq_toNat_cond]
    have h : (BitVec.ofNat 32 s.val).toNat = s.val := by
      rw [BitVec.toNat_ofNat]; exact Nat.mod_eq_of_lt (by have := s.isLt; omega)
    rw [h, if_pos (by have := s.isLt; omega)]
  rw [this]
  norm_cast

variable {v16 : FVec Ideal S2048x1024 .f32} {r : Fin 2048} {a : Fin 3 → Fin 1024}

/-- The first round's mark. -/
theorem pay11_apply (h : Nearest (fun s => v16 (ix2 r s)) a) (s : Fin 1024) :
    Gen.k0_pay11 (F := Ideal) v16 (ix2 r s) = BitVec.ofBool (decide (s = a 0)) := by
  unfold Gen.k0_pay11 Gen.k0_pay10
  pointwise
  simp only [pay9_apply, word_top, word_1024]
  congr 1
  exact decide_eq_decide.mpr (iff_of_eq (round_mark (firstMin_zero h) s))

theorem select_ofBool (p : Prop) [Decidable p] (x y : EReal) :
    Scalar.select (BitVec.ofBool (decide p)) x y = if p then x else y := by
  by_cases h : p <;> simp [h, Scalar.select]

/-- A weight of the kernel: its distance, its row's projection, its column's projection. -/
def weight (v17 v18 d p1 p2 : EReal) : EReal :=
  Ideal.logistic (v17 * d + p1 - p2 + v18) * ((1 / 3 : ℝ) : EReal)

/-- The first round's weight row. -/
theorem pay12_apply (v2 : FVec Ideal S3x1024 .f32) (v17 v18 v43 : EReal) (v32 : FVec Ideal S2048x1 .f32)
    (v36 v40 : FVec Ideal S1x1024 .f32) (h : Nearest (fun s => v16 (ix2 r s)) a) (s : Fin 1024) :
    Gen.k0_pay12 (F := Ideal) v2 v16 v17 v18 v32 v36 v40 v43 (ix2 r s)
      = if s = a 0 then weight v17 v18 (v16 (ix2 r (a 0))) (v32 (ix2 r 0))
          (Gen.k0_pay8 (F := Ideal) v2 v36 v40 v43 (ix2 0 (a 0))) else 0 := by
  unfold Gen.k0_pay12 Gen.k0_pay10
  pointwise
  simp only [pay11_apply h, select_ofBool, word_top, (firstMin_zero h).fold_min, sum_pick, named_third, weight]

/-- After the first round the row has its nearest place struck out. -/
theorem pay13_apply (h : Nearest (fun s => v16 (ix2 r s)) a) (s : Fin 1024) :
    Gen.k0_pay13 (F := Ideal) v16 (ix2 r s) = strike (a 0) (fun s => v16 (ix2 r s)) s := by
  unfold Gen.k0_pay13
  pointwise
  simp only [pay11_apply h, select_ofBool, word_top, strike]

/-- The second round's least value. -/
theorem pay14_apply (h : Nearest (fun s => v16 (ix2 r s)) a) (hd : ∀ s, v16 (ix2 r s) < ⊤) :
    Gen.k0_pay14 (F := Ideal) v16 (ix2 r 0) = v16 (ix2 r (a 1)) := by
  unfold Gen.k0_pay14
  pointwise
  simp only [pay13_apply h, word_top]
  refine (firstMin_one h hd).fold_min.trans ?_
  exact if_neg fun e => absurd (h.inj e) (by decide)

/-- The second round's mark. -/
theorem pay15_mark (h : Nearest (fun s => v16 (ix2 r s)) a) (hd : ∀ s, v16 (ix2 r s) < ⊤) (s : Fin 1024) :
    (Gen.k0_pay15 (F := Ideal) v16 (ix2 r s) = Gen.k0_pay16 (F := Ideal) v16 (ix2 r s)) = (s = a 1) := by
  unfold Gen.k0_pay16
  unfold Gen.k0_pay15 Gen.k0_pay14
  pointwise
  simp only [pay9_apply, pay13_apply h, word_top, word_1024]
  exact round_mark (firstMin_one h hd) s

/-- The whole weight row: zero but at the three nearest places. -/
theorem pay17_apply (v2 : FVec Ideal S3x1024 .f32) (v17 v18 v43 : EReal) (v32 : FVec Ideal S2048x1 .f32)
    (v36 v40 : FVec Ideal S1x1024 .f32) (h : Nearest (fun s => v16 (ix2 r s)) a) (hd : ∀ s, v16 (ix2 r s) < ⊤)
    (s : Fin 1024) :
    let w := fun k => weight v17 v18 (v16 (ix2 r (a k))) (v32 (ix2 r 0))
      (Gen.k0_pay8 (F := Ideal) v2 v36 v40 v43 (ix2 0 (a k)))
    Gen.k0_pay17 (F := Ideal) v17 v18 v32 (Gen.k0_pay8 (F := Ideal) v2 v36 v40 v43) (Gen.k0_pay9 (F := Ideal))
        (Gen.k0_pay12 (F := Ideal) v2 v16 v17 v18 v32 v36 v40 v43) (Gen.k0_pay13 (F := Ideal) v16)
        (Gen.k0_pay14 (F := Ideal) v16) (Gen.k0_pay15 (F := Ideal) v16) (Gen.k0_pay16 (F := Ideal) v16) (ix2 r s)
      = if s = a 2 then w 2 else if s = a 1 then w 1 else if s = a 0 then w 0 else 0 := by
  intro w
  unfold Gen.k0_pay17
  pointwise
  have hc : ∀ x, (if x = a 1 then (⊤ : EReal) else Gen.k0_pay13 (F := Ideal) v16 (ix2 r x))
      = strike (a 1) (strike (a 0) fun s => v16 (ix2 r s)) x := fun x => by
    rw [pay13_apply h]; rfl
  have h2 := firstMin_two h hd
  have e2 : strike (a 1) (strike (a 0) fun s => v16 (ix2 r s)) (a 2) = v16 (ix2 r (a 2)) :=
    (if_neg fun e => absurd (h.inj e) (by decide)).trans (if_neg fun e => absurd (h.inj e) (by decide))
  have hm := h2.fold_min.trans e2
  have hk : ∀ x, ((if strike (a 1) (strike (a 0) fun s => v16 (ix2 r s)) x = v16 (ix2 r (a 2)) then place x
      else ((1024 : ℝ) : EReal)) = Finset.univ.fold min (⊤ : EReal) (fun x => if strike (a 1) (strike (a 0)
        fun s => v16 (ix2 r s)) x = v16 (ix2 r (a 2)) then place x else ((1024 : ℝ) : EReal))) = (x = a 2) := fun x => by
    have := round_mark h2 x
    rw [hm] at this
    exact this
  simp only [pay9_apply, pay15_mark h hd, pay14_apply h hd, pay12_apply v2 v17 v18 v43 v32 v36 v40 h, word_top,
    word_1024, hc, show (fun x => strike (a 1) (strike (a 0) fun s => v16 (ix2 r s)) x)
      = strike (a 1) (strike (a 0) fun s => v16 (ix2 r s)) from rfl, hm, hk, sum_pick, named_third]
  rfl

end Cert.Proof

end
end
-- ==== Proof.Model.lean ====
module

public import proofs.«01_k».proof.Proof.Norm
public import proofs.«01_k».proof.Proof.KRow

/-! # The kernel's result as a function of its arguments

For every point of the first cloud three points of the second are picked by distance; the rows of the second cloud's
features at those points, weighted, are averaged and set beside the point's own features; two layers follow, each
normalised over all rows. -/

@[expose] public section

noncomputable section

namespace Cert.Proof

open Idealize.ShloMosaic

/-- The arguments. -/
structure In where
  x1 : Fin 8 → Fin 4096 → Fin 3 → EReal
  x2 : Fin 8 → Fin 1024 → Fin 3 → EReal
  p1 : Fin 8 → Fin 4096 → Fin 256 → EReal
  p2 : Fin 8 → Fin 1024 → Fin 256 → EReal
  rw : Fin 4 → EReal
  rb : EReal
  w1 : Fin 256 → Fin 512 → EReal
  b1 : Fin 256 → EReal
  g1 : Fin 256 → EReal
  t1 : Fin 256 → EReal
  w2 : Fin 256 → Fin 256 → EReal
  b2 : Fin 256 → EReal
  g2 : Fin 256 → EReal
  t2 : Fin 256 → EReal

namespace In

variable (I : In)

/-- The squared distance of two points, multiplied out. -/
def dist (b : Fin 8) (n : Fin 4096) (s : Fin 1024) : EReal :=
  ((-2 : ℝ) : EReal) * ∑ k, I.x1 b n k * I.x2 b s k + ∑ k, I.x1 b n k * I.x1 b n k + ∑ k, I.x2 b s k * I.x2 b s k

/-- A point projected on the relation's three offset weights. -/
def proj (u : Fin 3 → EReal) : EReal := u 0 * I.rw 1 + u 1 * I.rw 2 + u 2 * I.rw 3

/-- The weight of a point of the second cloud for a point of the first. -/
def wt (b : Fin 8) (n : Fin 4096) (s : Fin 1024) : EReal :=
  weight (I.rw 0) I.rb (I.dist b n s) (I.proj (I.x1 b n)) (I.proj (I.x2 b s))

/-- The first layer's values, the picked points being `a`. -/
def layer1 (a : Fin 8 → Fin 4096 → Fin 3 → Fin 1024) (b : Fin 8) (n : Fin 4096) (j : Fin 256) : EReal :=
  ∑ x : Fin 256, I.p1 b n x * I.w1 j (Fin.castLE (by decide) x)
    + ∑ x : Fin 256, (∑ k, I.wt b n (a b n k) * I.p2 b (a b n k) x) * I.w1 j (Fin.natAdd 256 x)
    + I.b1 j

end In

/-- A column's sum over all rows. -/
def colSum (z : Fin 8 → Fin 4096 → Fin 256 → EReal) (j : Fin 256) : EReal := ∑ b, ∑ n, z b n j

/-- A column's sum of squares over all rows. -/
def colSquares (z : Fin 8 → Fin 4096 → Fin 256 → EReal) (j : Fin 256) : EReal := ∑ b, ∑ n, z b n j * z b n j

/-- Every value normalised in its column and cut at zero. -/
def normed (z : Fin 8 → Fin 4096 → Fin 256 → EReal) (g t : Fin 256 → EReal) (b : Fin 8) (n : Fin 4096) (j : Fin 256) : EReal :=
  act (z b n j) (colSum z j) (colSquares z j) (g j) (t j)

/-- The second layer's values. -/
def In.layer2 (I : In) (z : Fin 8 → Fin 4096 → Fin 256 → EReal) (b : Fin 8) (n : Fin 4096) (j : Fin 256) : EReal :=
  ∑ x : Fin 256, normed z I.g1 I.t1 b n x * I.w2 j x + I.b2 j

/-- The kernel's result. -/
def In.result (I : In) (a : Fin 8 → Fin 4096 → Fin 3 → Fin 1024) : Fin 8 → Fin 4096 → Fin 256 → EReal :=
  normed (I.layer2 (I.layer1 a)) I.g2 I.t2

end Cert.Proof

end
end
-- ==== Proof.RSort.lean ====
module

public import proofs.«01_k».proof.Proof.Gen.ReferenceIdeal.Read
public import proofs.«01_k».proof.Proof.Model
public import proofs.«01_k».proof.Proof.Pick
public import proofs.«01_k».proof.Proof.Consts
public import Idealize.ShloMosaic.Lib.Pointwise

/-! # The reference's distances, and the order its sort puts them in -/

@[expose] public section

set_option maxRecDepth 16384

noncomputable section

namespace Cert.Proof

open Cert.ReferenceIdeal Cert.ReferenceIdeal.Gen Cert.ReferenceIdeal.Read
open Idealize.ShloMosaic Idealize.ShloMosaic.TcCoe Idealize.ShloMosaic.Tactic

/-- An array of extended reals. -/
abbrev Arr (s : Shape) := (⟨s, .f32⟩ : BufTy).Contents (Elt Ideal)

/-- The reference's arguments, at coordinates. -/
def inOf (x0 : Arr S8x4096x3) (x1 : Arr S8x1024x3) (x2 : Arr S8x4096x256) (x3 : Arr S8x1024x256) (x4 : Arr S4) (x5 : Arr S1)
    (x6 : Arr S256x512) (x7 x8 x9 : Arr S256) (x10 : Arr S256x256) (x11 x12 x13 : Arr S256) : In where
  x1 b n k := x0 (ix3 b n k)
  x2 b s k := x1 (ix3 b s k)
  p1 b n x := x2 (ix3 b n x)
  p2 b s x := x3 (ix3 b s x)
  rw k := x4 (ix1 k)
  rb := x5 (ix1 0)
  w1 j x := x6 (ix2 j x)
  b1 j := x7 (ix1 j)
  g1 j := x8 (ix1 j)
  t1 j := x9 (ix1 j)
  w2 j x := x10 (ix2 j x)
  b2 j := x11 (ix1 j)
  g2 j := x12 (ix1 j)
  t2 j := x13 (ix1 j)

variable (x0 : Arr S8x4096x3) (x1 : Arr S8x1024x3)

/-- The reference's squared distance, multiplied out. -/
theorem dist_apply (b : Fin 8) (n : Fin 4096) (s : Fin 1024) :
    val_main_v13 (F := Ideal) x0 x1 (ix3 b n s)
      = ((-2 : ℝ) : EReal) * ∑ k, x0 (ix3 b n k) * x1 (ix3 b s k) + ∑ k, x0 (ix3 b n k) * x0 (ix3 b n k)
        + ∑ k, x1 (ix3 b s k) * x1 (ix3 b s k) := by
  unfold val_main_v13 val_main_v8 val_main_v12 val_main_v3 val_main_v7 val_main_v11 val_main_v2 val_main_v6 val_main_v10
    val_main_v1 val_main_cst val_main_v5 val_main_v9 val_main_cst_1 val_main_v0 val_main_v4 val_main_cst_0
  pointwise [word_neg_two]

/-- The comparator of the sort is "less" on the first components. -/
theorem comparator_eq (l r : EReal × BitVec 32) :
    ((comparator_f32_i32_d2 (F := Ideal) l r == 1#1) : Bool) = decide (l.1 < r.1) := by
  have hz : Ideal.ofBits .f32 0x00000000#32 = 0 := by simp [Ideal.ofBits, Ideal.ieee]
  have h1 : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := by
    intro x
    rw [hz]
    by_cases h : x = 0 <;> simp [Scalar.select, Ideal.cmp, h]
  have : comparator_f32_i32_d2 (F := Ideal) l r = Ideal.cmp .olt l.1 r.1 := by
    show Ideal.cmp .olt (Scalar.select (Ideal.cmp .une l.1 l.1) (Ideal.ofBits .f32 0x7FC00000#32)
      (Scalar.select (Ideal.cmp .oeq l.1 (Ideal.ofBits .f32 0x00000000#32)) (Ideal.ofBits .f32 0x00000000#32) l.1))
      (Scalar.select (Ideal.cmp .une r.1 r.1) (Ideal.ofBits .f32 0x7FC00000#32)
      (Scalar.select (Ideal.cmp .oeq r.1 (Ideal.ofBits .f32 0x00000000#32)) (Ideal.ofBits .f32 0x00000000#32) r.1)) = _
    rw [h1, h1]
  rw [this]
  by_cases h : l.1 < r.1 <;> simp [Ideal.cmp, h]

/-- The place the sort puts at place `k` of a row. -/
def order (b : Fin 8) (n : Fin 4096) (k : Fin 1024) : Fin 1024 :=
  sortedFrom (fun k k' => decide (val_main_v13 (F := Ideal) x0 x1 (ix3 b n k) < val_main_v13 (F := Ideal) x0 x1 (ix3 b n k'))) k

/-- The second result of a sort of two arrays along the last of three axes. -/
theorem sort_row {A B C : ℕ} {α β : Type} (cmp : α × β → α × β → BitVec 1) (x : (⟨3, ![A, B, C]⟩ : Shape).Idx → α)
    (y : (⟨3, ![A, B, C]⟩ : Shape).Idx → β) (b : Fin A) (n : Fin B) (k : Fin C) :
    (Host.sort2 ⟨3, ![A, B, C]⟩ 2 cmp x y).2 (ix3 b n k)
      = y (ix3 b n (sortedFrom (fun k k' => cmp (x (ix3 b n k), y (ix3 b n k)) (x (ix3 b n k'), y (ix3 b n k')) == 1#1) k)) := by
  have h : ∀ k' : Fin C, Shape.Idx.along (s := ⟨3, ![A, B, C]⟩) (ix3 b n k) (⟨2, Nat.lt_succ_self 2⟩ : Fin 3) k' = ix3 b n k' := by
    intro k'
    funext a
    match a with
    | ⟨0, _⟩ => rfl
    | ⟨1, _⟩ => rfl
    | ⟨2, _⟩ => rfl
  unfold Host.sort2
  rw [dif_pos (Nat.lt_succ_self 2)]
  refine (congrArg y (h _)).trans ?_
  refine congrArg (fun q => y (ix3 b n q)) (congrArg (fun f => sortedFrom (n := C) f k) ?_)
  funext k1 k2
  have e : ∀ p1 p2 q1 q2 : (⟨3, ![A, B, C]⟩ : Shape).Idx, p1 = q1 → p2 = q2 →
      (cmp (x p1, y p1) (x p2, y p2) == 1#1) = (cmp (x q1, y q1) (x q2, y q2) == 1#1) := by
    rintro _ _ _ _ rfl rfl
    rfl
  exact e _ _ _ _ (h k1) (h k2)

/-- The sorted places, as words. -/
theorem argsort_apply (b : Fin 8) (n : Fin 4096) (k : Fin 1024) :
    val_main_v14 (F := Ideal) x0 x1 (ix3 b n k) = BitVec.ofNat 32 (order x0 x1 b n k).val := by
  unfold val_main_v14 order
  generalize val_main_v13 (F := Ideal) x0 x1 = d
  refine (sort_row _ d (val_main_call0_v0 (F := Ideal)) b n k).trans ?_
  rw [val_main_call0_v0_apply]
  simp only [comparator_eq]
  rfl

/-- The three places picked. -/
def picked (b : Fin 8) (n : Fin 4096) (k : Fin 3) : Fin 1024 := order x0 x1 b n (Fin.castLE (by decide) k)

theorem picked_nearest (b : Fin 8) (n : Fin 4096) :
    Nearest (fun s => val_main_v13 (F := Ideal) x0 x1 (ix3 b n s)) (picked x0 x1 b n) := by
  have h := fun d : Fin 1024 → EReal => nearest_sorted d (show 3 ≤ 1024 by omega)
  exact h _

end Cert.Proof

end
end
-- ==== Proof.RSums.lean ====
module

public import proofs.«01_k».proof.Proof.RSort

/-! # A sum over the batch and the row axis -/

@[expose] public section

set_option maxRecDepth 16384

noncomputable section

namespace Cert.Proof

open Idealize.ShloMosaic Idealize.ShloMosaic.Tactic

/-- The sum over the first and the last of three axes, at a coordinate of the middle one. -/
theorem sum_outer {A J N : ℕ} (h : Shape.ReducesTo ⟨3, ![A, J, N]⟩ [0, 2] ⟨1, ![J]⟩)
    (x : (⟨3, ![A, J, N]⟩ : Shape).Idx → EReal) (init : EReal) (j : Fin J) :
    Ideal.hostReduceAdd h x init (ix1 j) = init + ∑ b, ∑ n, x (ix3 b j n) := by
  unfold Ideal.hostReduceAdd
  refine congrArg (init + ·) ?_
  rw [← Fintype.sum_prod_type' (f := fun b n => x (ix3 b j n))]
  have hd : ∀ i, h.drop i = ix1 j ↔ i 1 = j := by
    intro i
    have e : (h.drop i 0 : Nat) = i 1 := h.drop_apply_val_of_eq i 0 1 Nat.one_pos rfl
    constructor
    · intro hi
      have := congrFun hi 0
      refine Fin.ext ?_
      exact e.symm.trans (congrArg Fin.val this)
    · intro hi
      funext a
      match a with
      | ⟨0, _⟩ => exact Fin.ext (e.trans (congrArg Fin.val hi))
  refine Finset.sum_bij' (fun i _ => (i 0, i 2)) (fun p _ => ix3 p.1 j p.2) ?_ ?_ ?_ ?_ ?_
  · intro i _
    exact Finset.mem_univ _
  · intro p _
    rw [Finset.mem_filter]
    exact ⟨Finset.mem_univ _, (hd _).2 rfl⟩
  · intro i hi
    have hj := (hd i).1 (Finset.mem_filter.1 hi).2
    funext a
    match a with
    | ⟨0, _⟩ => rfl
    | ⟨1, _⟩ => exact hj.symm
    | ⟨2, _⟩ => rfl
  · intro p _
    rfl
  · intro i hi
    have hj := (hd i).1 (Finset.mem_filter.1 hi).2
    refine congrArg x ?_
    funext a
    match a with
    | ⟨0, _⟩ => rfl
    | ⟨1, _⟩ => exact hj
    | ⟨2, _⟩ => rfl

end Cert.Proof

end
end
-- ==== Proof.RNorm.lean ====
module

public import proofs.«01_k».proof.Proof.RSums

/-! # The reference's two normalisations, at an index -/

@[expose] public section

set_option maxRecDepth 16384

noncomputable section

namespace Cert.Proof

open Cert.ReferenceIdeal Cert.ReferenceIdeal.Gen Cert.ReferenceIdeal.Read
open Idealize.ShloMosaic Idealize.ShloMosaic.TcCoe Idealize.ShloMosaic.Tactic

/-- A column's mean. -/
def colMean (z : Fin 8 → Fin 4096 → Fin 256 → EReal) (j : Fin 256) : EReal := Ideal.div (colSum z j) ((32768 : ℝ) : EReal)

/-- A column's variance: the mean of the squared differences from the mean. -/
def colVar (z : Fin 8 → Fin 4096 → Fin 256 → EReal) (j : Fin 256) : EReal :=
  Ideal.div (∑ b, ∑ n, (z b n j - colMean z j) * (z b n j - colMean z j)) ((32768 : ℝ) : EReal)

/-- Every value normalised in its column, as the reference writes it, and cut at zero. -/
def standard (z : Fin 8 → Fin 4096 → Fin 256 → EReal) (g t : Fin 256 → EReal) (b : Fin 8) (n : Fin 4096) (j : Fin 256) : EReal :=
  max (Ideal.div (z b n j - colMean z j) (Ideal.sqrt (colVar z j + (eps : EReal))) * g j + t j) 0

theorem lit_zero : (FloatOps.ofBits .f32 0x00000000#32 : Ideal .f32) = (0 : EReal) := Ideal.ofBits_zero_f32
theorem lit_count : (FloatOps.ofBits .f32 0x47000000#32 : Ideal .f32) = ((32768 : ℝ) : EReal) := word_count
theorem lit_eps : (FloatOps.ofBits .f32 0x3727C5AC#32 : Ideal .f32) = (eps : EReal) := word_eps

variable (x0 : Arr S8x4096x3) (x1 : Arr S8x1024x3) (x2 : Arr S8x4096x256) (x3 : Arr S8x1024x256) (x4 : Arr S4) (x5 : Arr S1)
  (x6 : Arr S256x512) (x7 x8 x9 : Arr S256) (x10 : Arr S256x256) (x11 x12 x13 : Arr S256)

/-- The first layer's values at coordinates. -/
def first (b : Fin 8) (n : Fin 4096) (j : Fin 256) : EReal := val_main_v59 (F := Ideal) x0 x1 x2 x3 x4 x5 x6 x7 (ix3 b j n)

/-- The second layer's values at coordinates. -/
def second (b : Fin 8) (n : Fin 4096) (j : Fin 256) : EReal :=
  val_main_v83 (F := Ideal) x0 x1 x2 x3 x4 x5 x6 x7 x8 x9 x10 x11 (ix3 b j n)

/-! ### The first normalisation -/

theorem sum_first (j : Fin 256) : val_main_v60 (F := Ideal) x0 x1 x2 x3 x4 x5 x6 x7 (ix1 j) = colSum (first x0 x1 x2 x3 x4 x5 x6 x7) j := by
  unfold val_main_v60 colSum first
  generalize val_main_v59 (F := Ideal) x0 x1 x2 x3 x4 x5 x6 x7 = z
  simp only [Host.reduceAdd, Ideal.hostReduceAdd_def]
  refine (sum_outer reducesTo_S8x256x4096_S256_d0_2 z _ j).trans ?_
  rw [val_main_cst_9_apply, lit_zero, zero_add]

theorem var_sum_first (j : Fin 256) : val_main_call2_v0 (F := Ideal) x0 x1 x2 x3 x4 x5 x6 x7 (ix1 j) = colSum (first x0 x1 x2 x3 x4 x5 x6 x7) j := by
  unfold val_main_call2_v0 colSum first
  generalize val_main_v59 (F := Ideal) x0 x1 x2 x3 x4 x5 x6 x7 = z
  simp only [Host.reduceAdd, Ideal.hostReduceAdd_def]
  refine (sum_outer reducesTo_S8x256x4096_S256_d0_2 z _ j).trans ?_
  rw [val_main_call2_cst_apply, lit_zero, zero_add]

theorem mean_first (j : Fin 256) : val_main_v63 (F := Ideal) x0 x1 x2 x3 x4 x5 x6 x7 (ix3 0 j 0) = colMean (first x0 x1 x2 x3 x4 x5 x6 x7) j := by
  have hi : idx_main_v61 (ix3 0 j 0) = ix1 j := by
    funext a
    match a with
    | ⟨0, _⟩ => rfl
  rw [val_main_v63_apply, val_main_v61_apply, hi, sum_first, val_main_v62_apply, val_main_cst_10_apply, lit_count]
  rfl

theorem var_mean_first (j : Fin 256) : val_main_call2_v3 (F := Ideal) x0 x1 x2 x3 x4 x5 x6 x7 (ix3 0 j 0) = colMean (first x0 x1 x2 x3 x4 x5 x6 x7) j := by
  have hi : idx_main_call2_v1 (ix3 0 j 0) = ix1 j := by
    funext a
    match a with
    | ⟨0, _⟩ => rfl
  rw [val_main_call2_v3_apply, val_main_call2_v1_apply, hi, var_sum_first, val_main_call2_v2_apply,
    val_main_call2_cst_0_apply, lit_count]
  rfl

theorem var_square_first (b : Fin 8) (n : Fin 4096) (j : Fin 256) :
    val_main_call2_v6 (F := Ideal) x0 x1 x2 x3 x4 x5 x6 x7 (ix3 b j n)
      = (first x0 x1 x2 x3 x4 x5 x6 x7 b n j - colMean (first x0 x1 x2 x3 x4 x5 x6 x7) j) * (first x0 x1 x2 x3 x4 x5 x6 x7 b n j - colMean (first x0 x1 x2 x3 x4 x5 x6 x7) j) := by
  have hi : idx_main_call2_v4 (ix3 b j n) = ix3 0 j 0 := by
    funext a
    match a with
    | ⟨0, _⟩ => rfl
    | ⟨1, _⟩ => rfl
    | ⟨2, _⟩ => rfl
  have hc : val_main_call2_v5 (F := Ideal) x0 x1 x2 x3 x4 x5 x6 x7 (ix3 b j n) = first x0 x1 x2 x3 x4 x5 x6 x7 b n j - colMean (first x0 x1 x2 x3 x4 x5 x6 x7) j := by
    rw [val_main_call2_v5_apply, val_main_call2_v4_apply, hi, var_mean_first]
    rfl
  rw [val_main_call2_v6_apply, hc]
  rfl

theorem var_squares_first (j : Fin 256) : val_main_call2_v9 (F := Ideal) x0 x1 x2 x3 x4 x5 x6 x7 (ix1 j)
    = ∑ b, ∑ n, (first x0 x1 x2 x3 x4 x5 x6 x7 b n j - colMean (first x0 x1 x2 x3 x4 x5 x6 x7) j) * (first x0 x1 x2 x3 x4 x5 x6 x7 b n j - colMean (first x0 x1 x2 x3 x4 x5 x6 x7) j) := by
  simp only [← var_square_first]
  unfold val_main_call2_v9
  generalize val_main_call2_v6 (F := Ideal) x0 x1 x2 x3 x4 x5 x6 x7 = z
  simp only [Host.reduceAdd, Ideal.hostReduceAdd_def]
  refine (sum_outer reducesTo_S8x256x4096_S256_d0_2 z _ j).trans ?_
  rw [val_main_call2_cst_2_apply, lit_zero, zero_add]

/-- The count the variance divides by. -/
theorem var_count_first (i : S_.Idx) : val_main_call2_v8 (F := Ideal) i = ((32768 : ℝ) : EReal) := by
  rw [val_main_call2_v8_apply, val_main_call2_cst_1_apply, val_main_call2_v7_apply, val_main_c_11_apply, lit_count]
  show ((32768 : ℝ) : EReal) - (((0#32 : BitVec 32).toInt : ℝ) : EReal) = _
  rw [← EReal.coe_sub]
  norm_num

theorem var_first (j : Fin 256) : val_main_v64 (F := Ideal) x0 x1 x2 x3 x4 x5 x6 x7 (ix3 0 j 0) = colVar (first x0 x1 x2 x3 x4 x5 x6 x7) j := by
  have hg : ∀ i, val_main_call2_v13 (F := Ideal) i = 1#1 := by
    intro i
    rw [val_main_call2_v13_apply, var_count_first, val_main_call2_cst_3_apply, lit_zero]
    show Ideal.cmp .ogt ((32768 : ℝ) : EReal) 0 = 1#1
    have : (0 : EReal) < ((32768 : ℝ) : EReal) := by exact_mod_cast (by norm_num : (0 : ℝ) < 32768)
    simp [Ideal.cmp, this]
  have hi : idx_main_call2_v10 (ix3 0 j 0) = ix1 j := by
    funext a
    match a with
    | ⟨0, _⟩ => rfl
  unfold val_main_v64
  show Scalar.select (broadcastInDim S1x256x1 ![] bcast_S_S1x256x1 (val_main_call2_v13 (F := Ideal)) (ix3 0 j 0)) _ _ = _
  rw [show broadcastInDim S1x256x1 ![] bcast_S_S1x256x1 (val_main_call2_v13 (F := Ideal)) (ix3 0 j 0) = 1#1 from hg _]
  rw [val_main_call2_v12_apply, val_main_call2_v10_apply, hi, var_squares_first, val_main_call2_v11_apply, var_count_first]
  rfl

/-- The first normalisation, cut at zero. -/
theorem standard_first (b : Fin 8) (n : Fin 4096) (j : Fin 256) :
    val_main_v78 (F := Ideal) x0 x1 x2 x3 x4 x5 x6 x7 x8 x9 (ix3 b j n)
      = standard (first x0 x1 x2 x3 x4 x5 x6 x7) (fun j => x8 (ix1 j)) (fun j => x9 (ix1 j)) b n j := by
  have h1 : ∀ i : S8x256x4096.Idx, i = ix3 b j n → (fun a => match a with
      | ⟨0, _⟩ => ⟨0, Nat.one_pos⟩
      | ⟨1, _⟩ => ⟨(i 1).val, (i 1).isLt⟩
      | ⟨2, _⟩ => ⟨0, Nat.one_pos⟩ : S1x256x1.Idx) = ix3 0 j 0 := by
    rintro _ rfl
    funext a
    match a with
    | ⟨0, _⟩ => rfl
    | ⟨1, _⟩ => rfl
    | ⟨2, _⟩ => rfl
  have hm : idx_main_v65 (ix3 b j n) = ix3 0 j 0 := h1 _ rfl
  have hq : idx_main_v70 (ix3 b j n) = ix3 0 j 0 := h1 _ rfl
  have hg : idx_main_v72 (idx_main_v73 (ix3 b j n)) = ix1 j := by
    funext a
    match a with
    | ⟨0, _⟩ => rfl
  have ht : idx_main_v75 (idx_main_v76 (ix3 b j n)) = ix1 j := by
    funext a
    match a with
    | ⟨0, _⟩ => rfl
  have hz : val_main_v59 (F := Ideal) x0 x1 x2 x3 x4 x5 x6 x7 (ix3 b j n) = first x0 x1 x2 x3 x4 x5 x6 x7 b n j := rfl
  have hs : val_main_v69 (F := Ideal) x0 x1 x2 x3 x4 x5 x6 x7 (ix3 0 j 0) = Ideal.sqrt (colVar (first x0 x1 x2 x3 x4 x5 x6 x7) j + (eps : EReal)) := by
    rw [val_main_v69_apply, val_main_v68_apply, var_first, val_main_v67_apply, val_main_cst_12_apply, lit_eps]
    rfl
  rw [val_main_v78_apply, val_main_v77_apply, val_main_v74_apply, val_main_v71_apply, val_main_v66_apply,
    val_main_v65_apply, hm, mean_first, val_main_v70_apply, hq, hs, val_main_v73_apply, val_main_v72_apply, hg,
    val_main_v76_apply, val_main_v75_apply, ht, val_main_call3_v0_apply, val_main_call3_cst_apply, lit_zero, hz]
  rfl

/-! ### The second normalisation -/

theorem sum_second (j : Fin 256) : val_main_v84 (F := Ideal) x0 x1 x2 x3 x4 x5 x6 x7 x8 x9 x10 x11 (ix1 j) = colSum (second x0 x1 x2 x3 x4 x5 x6 x7 x8 x9 x10 x11) j := by
  unfold val_main_v84 colSum second
  generalize val_main_v83 (F := Ideal) x0 x1 x2 x3 x4 x5 x6 x7 x8 x9 x10 x11 = z
  simp only [Host.reduceAdd, Ideal.hostReduceAdd_def]
  refine (sum_outer reducesTo_S8x256x4096_S256_d0_2 z _ j).trans ?_
  rw [val_main_cst_13_apply, lit_zero, zero_add]

theorem var_sum_second (j : Fin 256) : val_main_call4_v0 (F := Ideal) x0 x1 x2 x3 x4 x5 x6 x7 x8 x9 x10 x11 (ix1 j) = colSum (second x0 x1 x2 x3 x4 x5 x6 x7 x8 x9 x10 x11) j := by
  unfold val_main_call4_v0 colSum second
  generalize val_main_v83 (F := Ideal) x0 x1 x2 x3 x4 x5 x6 x7 x8 x9 x10 x11 = z
  simp only [Host.reduceAdd, Ideal.hostReduceAdd_def]
  refine (sum_outer reducesTo_S8x256x4096_S256_d0_2 z _ j).trans ?_
  rw [val_main_call4_cst_apply, lit_zero, zero_add]

theorem mean_second (j : Fin 256) : val_main_v87 (F := Ideal) x0 x1 x2 x3 x4 x5 x6 x7 x8 x9 x10 x11 (ix3 0 j 0) = colMean (second x0 x1 x2 x3 x4 x5 x6 x7 x8 x9 x10 x11) j := by
  have hi : idx_main_v85 (ix3 0 j 0) = ix1 j := by
    funext a
    match a with
    | ⟨0, _⟩ => rfl
  rw [val_main_v87_apply, val_main_v85_apply, hi, sum_second, val_main_v86_apply, val_main_cst_14_apply, lit_count]
  rfl

theorem var_mean_second (j : Fin 256) : val_main_call4_v3 (F := Ideal) x0 x1 x2 x3 x4 x5 x6 x7 x8 x9 x10 x11 (ix3 0 j 0) = colMean (second x0 x1 x2 x3 x4 x5 x6 x7 x8 x9 x10 x11) j := by
  have hi : idx_main_call4_v1 (ix3 0 j 0) = ix1 j := by
    funext a
    match a with
    | ⟨0, _⟩ => rfl
  rw [val_main_call4_v3_apply, val_main_call4_v1_apply, hi, var_sum_second, val_main_call4_v2_apply,
    val_main_call4_cst_0_apply, lit_count]
  rfl

theorem var_square_second (b : Fin 8) (n : Fin 4096) (j : Fin 256) :
    val_main_call4_v6 (F := Ideal) x0 x1 x2 x3 x4 x5 x6 x7 x8 x9 x10 x11 (ix3 b j n)
      = (second x0 x1 x2 x3 x4 x5 x6 x7 x8 x9 x10 x11 b n j - colMean (second x0 x1 x2 x3 x4 x5 x6 x7 x8 x9 x10 x11) j) * (second x0 x1 x2 x3 x4 x5 x6 x7 x8 x9 x10 x11 b n j - colMean (second x0 x1 x2 x3 x4 x5 x6 x7 x8 x9 x10 x11) j) := by
  have hi : idx_main_call4_v4 (ix3 b j n) = ix3 0 j 0 := by
    funext a
    match a with
    | ⟨0, _⟩ => rfl
    | ⟨1, _⟩ => rfl
    | ⟨2, _⟩ => rfl
  have hc : val_main_call4_v5 (F := Ideal) x0 x1 x2 x3 x4 x5 x6 x7 x8 x9 x10 x11 (ix3 b j n) = second x0 x1 x2 x3 x4 x5 x6 x7 x8 x9 x10 x11 b n j - colMean (second x0 x1 x2 x3 x4 x5 x6 x7 x8 x9 x10 x11) j := by
    rw [val_main_call4_v5_apply, val_main_call4_v4_apply, hi, var_mean_second]
    rfl
  rw [val_main_call4_v6_apply, hc]
  rfl

theorem var_squares_second (j : Fin 256) : val_main_call4_v9 (F := Ideal) x0 x1 x2 x3 x4 x5 x6 x7 x8 x9 x10 x11 (ix1 j)
    = ∑ b, ∑ n, (second x0 x1 x2 x3 x4 x5 x6 x7 x8 x9 x10 x11 b n j - colMean (second x0 x1 x2 x3 x4 x5 x6 x7 x8 x9 x10 x11) j) * (second x0 x1 x2 x3 x4 x5 x6 x7 x8 x9 x10 x11 b n j - colMean (second x0 x1 x2 x3 x4 x5 x6 x7 x8 x9 x10 x11) j) := by
  simp only [← var_square_second]
  unfold val_main_call4_v9
  generalize val_main_call4_v6 (F := Ideal) x0 x1 x2 x3 x4 x5 x6 x7 x8 x9 x10 x11 = z
  simp only [Host.reduceAdd, Ideal.hostReduceAdd_def]
  refine (sum_outer reducesTo_S8x256x4096_S256_d0_2 z _ j).trans ?_
  rw [val_main_call4_cst_2_apply, lit_zero, zero_add]

/-- The count the variance divides by. -/
theorem var_count_second (i : S_.Idx) : val_main_call4_v8 (F := Ideal) i = ((32768 : ℝ) : EReal) := by
  rw [val_main_call4_v8_apply, val_main_call4_cst_1_apply, val_main_call4_v7_apply, val_main_c_15_apply, lit_count]
  show ((32768 : ℝ) : EReal) - (((0#32 : BitVec 32).toInt : ℝ) : EReal) = _
  rw [← EReal.coe_sub]
  norm_num

theorem var_second (j : Fin 256) : val_main_v88 (F := Ideal) x0 x1 x2 x3 x4 x5 x6 x7 x8 x9 x10 x11 (ix3 0 j 0) = colVar (second x0 x1 x2 x3 x4 x5 x6 x7 x8 x9 x10 x11) j := by
  have hg : ∀ i, val_main_call4_v13 (F := Ideal) i = 1#1 := by
    intro i
    rw [val_main_call4_v13_apply, var_count_second, val_main_call4_cst_3_apply, lit_zero]
    show Ideal.cmp .ogt ((32768 : ℝ) : EReal) 0 = 1#1
    have : (0 : EReal) < ((32768 : ℝ) : EReal) := by exact_mod_cast (by norm_num : (0 : ℝ) < 32768)
    simp [Ideal.cmp, this]
  have hi : idx_main_call4_v10 (ix3 0 j 0) = ix1 j := by
    funext a
    match a with
    | ⟨0, _⟩ => rfl
  unfold val_main_v88
  show Scalar.select (broadcastInDim S1x256x1 ![] bcast_S_S1x256x1 (val_main_call4_v13 (F := Ideal)) (ix3 0 j 0)) _ _ = _
  rw [show broadcastInDim S1x256x1 ![] bcast_S_S1x256x1 (val_main_call4_v13 (F := Ideal)) (ix3 0 j 0) = 1#1 from hg _]
  rw [val_main_call4_v12_apply, val_main_call4_v10_apply, hi, var_squares_second, val_main_call4_v11_apply, var_count_second]
  rfl

/-- The second normalisation, cut at zero. -/
theorem standard_second (b : Fin 8) (n : Fin 4096) (j : Fin 256) :
    val_main_v102 (F := Ideal) x0 x1 x2 x3 x4 x5 x6 x7 x8 x9 x10 x11 x12 x13 (ix3 b j n)
      = standard (second x0 x1 x2 x3 x4 x5 x6 x7 x8 x9 x10 x11) (fun j => x12 (ix1 j)) (fun j => x13 (ix1 j)) b n j := by
  have h1 : ∀ i : S8x256x4096.Idx, i = ix3 b j n → (fun a => match a with
      | ⟨0, _⟩ => ⟨0, Nat.one_pos⟩
      | ⟨1, _⟩ => ⟨(i 1).val, (i 1).isLt⟩
      | ⟨2, _⟩ => ⟨0, Nat.one_pos⟩ : S1x256x1.Idx) = ix3 0 j 0 := by
    rintro _ rfl
    funext a
    match a with
    | ⟨0, _⟩ => rfl
    | ⟨1, _⟩ => rfl
    | ⟨2, _⟩ => rfl
  have hm : idx_main_v89 (ix3 b j n) = ix3 0 j 0 := h1 _ rfl
  have hq : idx_main_v94 (ix3 b j n) = ix3 0 j 0 := h1 _ rfl
  have hg : idx_main_v96 (idx_main_v97 (ix3 b j n)) = ix1 j := by
    funext a
    match a with
    | ⟨0, _⟩ => rfl
  have ht : idx_main_v99 (idx_main_v100 (ix3 b j n)) = ix1 j := by
    funext a
    match a with
    | ⟨0, _⟩ => rfl
  have hz : val_main_v83 (F := Ideal) x0 x1 x2 x3 x4 x5 x6 x7 x8 x9 x10 x11 (ix3 b j n) = second x0 x1 x2 x3 x4 x5 x6 x7 x8 x9 x10 x11 b n j := rfl
  have hs : val_main_v93 (F := Ideal) x0 x1 x2 x3 x4 x5 x6 x7 x8 x9 x10 x11 (ix3 0 j 0) = Ideal.sqrt (colVar (second x0 x1 x2 x3 x4 x5 x6 x7 x8 x9 x10 x11) j + (eps : EReal)) := by
    rw [val_main_v93_apply, val_main_v92_apply, var_second, val_main_v91_apply, val_main_cst_16_apply, lit_eps]
    rfl
  rw [val_main_v102_apply, val_main_v101_apply, val_main_v98_apply, val_main_v95_apply, val_main_v90_apply,
    val_main_v89_apply, hm, mean_second, val_main_v94_apply, hq, hs, val_main_v97_apply, val_main_v96_apply, hg,
    val_main_v100_apply, val_main_v99_apply, ht, val_main_call5_v0_apply, val_main_call5_cst_apply, lit_zero, hz]
  rfl

/-- The second layer's values, from the first normalisation's. -/
theorem second_apply (b : Fin 8) (n : Fin 4096) (j : Fin 256) :
    second x0 x1 x2 x3 x4 x5 x6 x7 x8 x9 x10 x11 b n j
      = ∑ x : Fin 256, x10 (ix2 j x) * val_main_v78 (F := Ideal) x0 x1 x2 x3 x4 x5 x6 x7 x8 x9 (ix3 b x n) + x11 (ix1 j) := by
  unfold second
  have hi : idx_main_v80 (ix3 b j n) = ix3 j b n := by
    funext a
    match a with
    | ⟨0, _⟩ => rfl
    | ⟨1, _⟩ => rfl
    | ⟨2, _⟩ => rfl
  have hb : idx_main_v81 (idx_main_v82 (ix3 b j n)) = ix1 j := by
    funext a
    match a with
    | ⟨0, _⟩ => rfl
  rw [val_main_v83_apply, val_main_v80_apply, hi, val_main_v79_apply, val_main_v82_apply, val_main_v81_apply, hb]
  refine congrArg (· + x11 (ix1 j)) ?_
  refine Finset.sum_congr rfl fun x _ => congrArg₂ (· * ·) (congrArg x10 (funext fun a => ?_)) (congrArg _ (funext fun a => ?_))
  · match a with
    | ⟨0, _⟩ => rfl
    | ⟨1, _⟩ => rfl
  · match a with
    | ⟨0, _⟩ => rfl
    | ⟨1, _⟩ => rfl
    | ⟨2, _⟩ => rfl

/-- The reference's result. -/
theorem result_apply (b : Fin 8) (n : Fin 4096) (j : Fin 256) :
    val_main_v103 (F := Ideal) x0 x1 x2 x3 x4 x5 x6 x7 x8 x9 x10 x11 x12 x13 (ix3 b n j)
      = standard (second x0 x1 x2 x3 x4 x5 x6 x7 x8 x9 x10 x11) (fun j => x12 (ix1 j)) (fun j => x13 (ix1 j)) b n j := by
  rw [← standard_second, val_main_v103_apply]
  refine congrArg _ (funext fun a => ?_)
  match a with
  | ⟨0, _⟩ => rfl
  | ⟨1, _⟩ => rfl
  | ⟨2, _⟩ => rfl

end Cert.Proof

end
end
-- ==== Proof.Reals.lean ====
module

public import proofs.«01_k».proof.Proof.RNorm

/-! # Values that are real numbers

Over real numbers the two programs' formulas agree: the weight's argument multiplied out, the mean over three points as
a weight of a third, the variance as the mean square less the squared mean. -/

@[expose] public section

noncomputable section

namespace Cert.Proof

open Idealize.ShloMosaic

/-- An extended real that is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.max_zero {x : EReal} (hx : IsReal x) : IsReal (max x 0) := by
  rcases max_choice x 0 with h | h
  · rw [h]
    exact hx
  · rw [h]
    exact ⟨0, rfl⟩

/-- A finite sum of real numbers, taken among the extended reals. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) {f : ι → EReal} (h : ∀ i, IsReal (f i)) : IsReal (∑ i ∈ s, f i) := by
  choose g hg using h
  simp only [hg]
  exact ⟨_, sum_coe s g⟩

theorem isReal_logistic (x : EReal) : IsReal (Ideal.logistic x) := by
  induction x using EReal.rec with
  | bot => exact ⟨0, Ideal.logistic_bot⟩
  | top => exact ⟨1, Ideal.logistic_top⟩
  | coe r => exact ⟨_, Ideal.logistic_coe r⟩

/-! ### The weight's argument and the mean over three points -/

/-- Four channels against four weights: the distance, and the offset multiplied out. -/
theorem relation_sum {d : EReal} {u v : Fin 3 → EReal} {w : Fin 4 → EReal} (hd : IsReal d) (hu : ∀ l, IsReal (u l))
    (hv : ∀ l, IsReal (v l)) (hw : ∀ l, IsReal (w l)) (rb : EReal) :
    d * w 0 + ((u 0 - v 0) * w 1 + (u 1 - v 1) * w 2 + (u 2 - v 2) * w 3) + rb
      = w 0 * d + (u 0 * w 1 + u 1 * w 2 + u 2 * w 3) - (v 0 * w 1 + v 1 * w 2 + v 2 * w 3) + rb := by
  obtain ⟨d, rfl⟩ := hd
  choose u' hu using hu
  choose v' hv using hv
  choose w' hw using hw
  refine congrArg (· + rb) ?_
  simp only [hu, hv, hw]
  norm_cast
  ring

/-- A mean of three products is the sum of the products with a third. -/
theorem mean_three {p s : Fin 3 → EReal} (hp : ∀ k, IsReal (p k)) (hs : ∀ k, IsReal (s k)) :
    Ideal.div (∑ k, p k * s k) ((3 : ℝ) : EReal) = ∑ k, s k * ((1 / 3 : ℝ) : EReal) * p k := by
  choose p' hp using hp
  choose s' hs using hs
  rw [Ideal.div_coe (by norm_num : (3 : ℝ) ≠ 0)]
  simp only [hp, hs, ← EReal.coe_mul, sum_coe]
  refine congrArg _ ?_
  rw [Finset.sum_mul]
  exact Finset.sum_congr rfl fun k _ => by ring

/-! ### The normalisation -/

/-- The mean squared difference from the mean is the mean square less the squared mean. -/
theorem variance_split (z : Fin 8 → Fin 4096 → ℝ) (μ : ℝ) (hμ : μ = (∑ b, ∑ n, z b n) * (1 / 32768)) :
    (∑ b, ∑ n, (z b n - μ) * (z b n - μ)) * (1 / 32768) = (∑ b, ∑ n, z b n * z b n) * (1 / 32768) - μ * μ := by
  have h : ∑ b, ∑ n, (z b n - μ) * (z b n - μ)
      = (∑ b, ∑ n, z b n * z b n) - 2 * μ * (∑ b, ∑ n, z b n) + 32768 * (μ * μ) := by
    have e : ∀ b n, (z b n - μ) * (z b n - μ) = z b n * z b n - 2 * μ * z b n + μ * μ := fun b n => by ring
    simp only [e, Finset.sum_add_distrib, Finset.sum_sub_distrib, ← Finset.mul_sum, Finset.sum_const, Finset.card_univ,
      Fintype.card_fin, nsmul_eq_mul]
    push_cast
    ring
  have hs : (∑ b, ∑ n, z b n) = 32768 * μ := by
    rw [hμ]
    ring
  rw [h, hs]
  ring

theorem standard_eq {z : Fin 8 → Fin 4096 → Fin 256 → EReal} (hz : ∀ b n j, IsReal (z b n j)) (g t : Fin 256 → EReal)
    (b : Fin 8) (n : Fin 4096) (j : Fin 256) : standard z g t b n j = normed z g t b n j ∧
      (IsReal (g j) → IsReal (t j) → IsReal (normed z g t b n j)) := by
  choose r hr using hz
  have hz : z = fun b n j => (r b n j : EReal) := by
    funext b n j
    exact hr b n j
  subst hz
  set s : ℝ := ∑ b, ∑ n, r b n j with hs
  set q : ℝ := ∑ b, ∑ n, r b n j * r b n j with hq
  set μ : ℝ := s * (1 / 32768) with hμ
  have h0 : (32768 : ℝ) ≠ 0 := by norm_num
  have es : colSum (fun b n j => (r b n j : EReal)) j = (s : EReal) := by
    unfold colSum
    simp only [sum_coe, hs]
  have eq : colSquares (fun b n j => (r b n j : EReal)) j = (q : EReal) := by
    unfold colSquares
    simp only [← EReal.coe_mul, sum_coe, hq]
  have em : colMean (fun b n j => (r b n j : EReal)) j = (μ : EReal) := by
    unfold colMean
    rw [es, Ideal.div_coe h0, ← EReal.coe_mul]
  have ev : colVar (fun b n j => (r b n j : EReal)) j = ((q * (1 / 32768) - μ * μ : ℝ) : EReal) := by
    unfold colVar
    rw [Ideal.div_coe h0, em]
    simp only [← EReal.coe_sub, ← EReal.coe_mul, sum_coe]
    exact congrArg _ (variance_split (fun b n => r b n j) μ hμ)
  have hpos : 0 < q * (1 / 32768) - μ * μ + eps := by
    have hv := variance_split (fun b n => r b n j) μ hμ
    have hn : 0 ≤ (∑ b, ∑ n, (r b n j - μ) * (r b n j - μ)) * (1 / 32768 : ℝ) :=
      mul_nonneg (Finset.sum_nonneg fun b _ => Finset.sum_nonneg fun n _ => mul_self_nonneg _) (by norm_num)
    have he := eps_pos
    have : 0 ≤ q * (1 / 32768) - μ * μ := hv ▸ hn
    linarith
  set v : ℝ := q * (1 / 32768) - μ * μ + eps with hv
  have hsq : 0 < Real.sqrt v := Real.sqrt_pos.2 hpos
  have e1 : standard (fun b n j => (r b n j : EReal)) g t b n j
      = max (((r b n j - μ : ℝ) : EReal) * ((Real.sqrt v)⁻¹ : ℝ) * g j + t j) 0 := by
    unfold standard
    rw [em, ev, ← EReal.coe_add, ← hv, Ideal.sqrt_coe, if_neg (not_lt.2 hpos.le), Ideal.div_coe hsq.ne', ← EReal.coe_sub, one_div]
  have e2 : normed (fun b n j => (r b n j : EReal)) g t b n j
      = max (((r b n j - μ : ℝ) : EReal) * (g j * ((Real.sqrt v)⁻¹ : ℝ)) + t j) 0 := by
    unfold normed act
    rw [es, eq]
    simp only [← EReal.coe_mul, ← EReal.coe_sub, ← EReal.coe_add]
    rw [← hμ, ← hv, Ideal.rsqrt_coe, if_neg (not_lt.2 hpos.le), if_neg hpos.ne']
  refine ⟨?_, fun hg ht => ?_⟩
  · rw [e1, e2, mul_assoc, mul_comm (g j)]
  · rw [e2]
    exact (((isReal_coe _).mul (hg.mul (isReal_coe _))).add ht).max_zero

end Cert.Proof

end
end
-- ==== Proof.RGather.lean ====
module

public import proofs.«01_k».proof.Proof.RSort
public import Idealize.ShloMosaic.Lib.ReduceAll

/-! # The reference's gathers, read at the picked places -/

@[expose] public section

set_option maxRecDepth 16384

noncomputable section

namespace Cert.Proof

open Cert.ReferenceIdeal Cert.ReferenceIdeal.Gen Cert.ReferenceIdeal.Read
open Idealize.ShloMosaic Idealize.ShloMosaic.TcCoe Idealize.ShloMosaic.Tactic

/-! ### A gather with a batch axis, at an index -/

theorem one_ne_zero3 : ¬(1 : Fin 3) = 0 := by decide
theorem two_ne_zero3 : ¬(2 : Fin 3) = 0 := by decide
theorem two_ne_one3 : ¬(2 : Fin 3) = 1 := by decide

section General

variable {α : Type}

/-- Whole rows of an array picked per batch: the row is the start index, read signed and clamped. -/
theorem gather_rows {A N C R K w : ℕ} (hN : 0 < N)
    (wf : GatherDims.WF ⟨3, ![A, N, C]⟩ ⟨4, ![A, R, K, 1]⟩ ⟨4, ![A, R, K, C]⟩ [3] [1] [0] [1] [0] 3 ![1, 1, C])
    (x : (⟨3, ![A, N, C]⟩ : Shape).Idx → α) (idx : IVec ⟨4, ![A, R, K, 1]⟩ w) (b : Fin A) (n : Fin R) (k : Fin K) (l : Fin C) :
    Host.gather (⟨[3], [1], [0], [0], [1], 3, ![1, 1, C], wf⟩ :
        GatherDims ⟨3, ![A, N, C]⟩ ⟨4, ![A, R, K, 1]⟩ ⟨4, ![A, R, K, C]⟩) x idx (ix4 b n k l)
      = x (ix3 b ⟨min (idx (ix4 b n k 0)).toInt.toNat (N - 1), by omega⟩ l) := by
  set d : GatherDims ⟨3, ![A, N, C]⟩ ⟨4, ![A, R, K, 1]⟩ ⟨4, ![A, R, K, C]⟩ := ⟨[3], [1], [0], [0], [1], 3, ![1, 1, C], wf⟩ with hd
  unfold Host.gather
  refine congrArg x (funext fun a => Fin.ext ?_)
  show d.start (ix4 b n k l) idx a + d.batchCoord (ix4 b n k l) a + d.offCoord (ix4 b n k l) a = _
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => absurd (List.mem_singleton.mp h) one_ne_zero3),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix4 b n k l) ⟨List.idxOf (1 : Fin 3) d.startIndexMap,
        List.idxOf_lt_length_iff.2 (List.mem_singleton.mpr rfl)⟩ = ix4 b n k 0 := by
      funext e
      refine Fin.ext ?_
      match e with
      | ⟨0, _⟩ => rfl
      | ⟨1, _⟩ => rfl
      | ⟨2, _⟩ => rfl
      | ⟨3, _⟩ => rfl
    rw [hsi]
    rfl
  · unfold GatherDims.start
    rw [dif_neg (fun h => absurd (List.mem_singleton.mp h) two_ne_one3),
      GatherDims.batchCoord_eq_zero _ _ _ (fun h => absurd (List.mem_singleton.mp h) two_ne_zero3)]
    simp only [Nat.zero_add]
    unfold GatherDims.offCoord
    rw [dif_pos ((GatherDims.mem_sKept _ _).mpr ⟨fun h => absurd (List.mem_singleton.mp h) two_ne_one3,
      fun h => absurd (List.mem_singleton.mp h) two_ne_zero3⟩)]
    rfl

/-- Single elements of each row of an array picked along the row. -/
theorem gather_elements {A R N K w : ℕ} (hN : 0 < N)
    (wf : GatherDims.WF ⟨3, ![A, R, N]⟩ ⟨4, ![A, R, K, 1]⟩ ⟨3, ![A, R, K]⟩ [] [2] [0, 1] [2] [0, 1] 3 ![1, 1, 1])
    (x : (⟨3, ![A, R, N]⟩ : Shape).Idx → α) (idx : IVec ⟨4, ![A, R, K, 1]⟩ w) (b : Fin A) (n : Fin R) (k : Fin K) :
    Host.gather (⟨[], [2], [0, 1], [0, 1], [2], 3, ![1, 1, 1], wf⟩ :
        GatherDims ⟨3, ![A, R, N]⟩ ⟨4, ![A, R, K, 1]⟩ ⟨3, ![A, R, K]⟩) x idx (ix3 b n k)
      = x (ix3 b n ⟨min (idx (ix4 b n k 0)).toInt.toNat (N - 1), by omega⟩) := by
  set d : GatherDims ⟨3, ![A, R, N]⟩ ⟨4, ![A, R, K, 1]⟩ ⟨3, ![A, R, K]⟩ := ⟨[], [2], [0, 1], [0, 1], [2], 3, ![1, 1, 1], wf⟩ with hd
  unfold Host.gather
  refine congrArg x (funext fun a => Fin.ext ?_)
  show d.start (ix3 b n k) idx a + d.batchCoord (ix3 b n k) a + d.offCoord (ix3 b n k) a = _
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  have m0 : (0 : Fin 3) ∈ d.operandBatchingDims := List.mem_cons_self
  have m1 : (1 : Fin 3) ∈ d.operandBatchingDims := List.mem_cons_of_mem _ List.mem_cons_self
  rcases ha with rfl | rfl | rfl
  · rw [GatherDims.start_batching _ _ _ _ m0,
      GatherDims.offCoord_eq_zero _ _ _ (fun h => ((GatherDims.mem_sKept _ _).mp h).2 m0)]
    simp only [Nat.zero_add, Nat.add_zero]
    unfold GatherDims.batchCoord
    rw [dif_pos m0]
    rfl
  · rw [GatherDims.start_batching _ _ _ _ m1,
      GatherDims.offCoord_eq_zero _ _ _ (fun h => ((GatherDims.mem_sKept _ _).mp h).2 m1)]
    simp only [Nat.zero_add, Nat.add_zero]
    unfold GatherDims.batchCoord
    rw [dif_pos m1]
    rfl
  · rw [GatherDims.batchCoord_eq_zero _ _ _ (fun h => by
        rcases List.mem_cons.mp h with h | h
        · exact absurd h two_ne_zero3
        · exact absurd (List.mem_singleton.mp h) two_ne_one3),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ d.startIndexMap from List.mem_singleton.mpr rfl)]
    have hsi : d.siIdx (ix3 b n k) ⟨List.idxOf (2 : Fin 3) d.startIndexMap,
        List.idxOf_lt_length_iff.2 (List.mem_singleton.mpr rfl)⟩ = ix4 b n k 0 := by
      funext e
      refine Fin.ext ?_
      match e with
      | ⟨0, _⟩ => rfl
      | ⟨1, _⟩ => rfl
      | ⟨2, _⟩ => rfl
      | ⟨3, _⟩ => rfl
    rw [hsi]
    rfl

end General

/-! ### Places as words -/

theorem place_toInt (p : Fin 1024) : (BitVec.ofNat 32 p.val).toInt = (p.val : ℤ) := by
  have h := p.isLt
  rw [BitVec.toInt_ofNat']
  simp only [Int.bmod]
  omega

/-- A place read back from its word and clamped is itself. -/
theorem place_clamp {w : BitVec 32} {p : Fin 1024} (e : w = BitVec.ofNat 32 p.val) (h : min w.toInt.toNat (1024 - 1) < 1024) :
    (⟨min w.toInt.toNat (1024 - 1), h⟩ : Fin 1024) = p := by
  subst e
  refine Fin.ext ?_
  show min (BitVec.ofNat 32 p.val).toInt.toNat (1024 - 1) = p.val
  rw [place_toInt]
  have h := p.isLt
  omega

theorem place_ge (p : Fin 1024) : IntOp.cmpi .sge (BitVec.ofNat 32 p.val) 0#32 = 1#1 := by
  refine IntOp.cmpi_sge.2 ?_
  rw [place_toInt]
  exact Int.natCast_nonneg _

theorem place_le (p : Fin 1024) : IntOp.cmpi .sle (BitVec.ofNat 32 p.val) 1023#32 = 1#1 := by
  refine IntOp.cmpi_sle.2 ?_
  rw [place_toInt]
  have h := p.isLt
  show _ ≤ (1023 : ℤ)
  omega

theorem place_nonneg (p : Fin 1024) : (BitVec.ofNat 32 p.val).slt 0#32 = false := by
  rw [BitVec.slt_eq_decide, place_toInt]
  simp

/-- A place is never wrapped. -/
theorem place_wrap (p : Fin 1024) (v : BitVec 32) :
    Scalar.select (IntOp.cmpi .slt (BitVec.ofNat 32 p.val) 0#32) v (BitVec.ofNat 32 p.val) = BitVec.ofNat 32 p.val := by
  unfold Scalar.select IntOp.cmpi
  simp only [place_nonneg]
  rfl

variable (x0 : Arr S8x4096x3) (x1 : Arr S8x1024x3) (x3 : Arr S8x1024x256)

theorem places_along (b : Fin 8) (n : Fin 4096) (k : Fin 1024) (e : Fin 1) :
    val_main_call1_v5 (F := Ideal) x0 x1 (ix4 b n k e) = BitVec.ofNat 32 (order x0 x1 b n k).val := by
  have hi : idx_main_call1_v5 (ix4 b n k e) = ix3 b n k := by
    have hb := b.isLt
    have hn := n.isLt
    have hk := k.isLt
    have he := e.isLt
    funext a
    refine Fin.ext ?_
    match a with
    | ⟨0, _⟩ =>
      show (((b.val * 4096 + n.val) * 1024 + k.val) * 1 + e.val) / 4194304 = b.val
      omega
    | ⟨1, _⟩ =>
      show (((b.val * 4096 + n.val) * 1024 + k.val) * 1 + e.val) / 1024 % 4096 = n.val
      omega
    | ⟨2, _⟩ =>
      show (((b.val * 4096 + n.val) * 1024 + k.val) * 1 + e.val) % 1024 = k.val
      omega
  rw [val_main_call1_v5_apply, hi, val_main_call1_v4_apply, val_main_call1_v1_apply, val_main_call1_v0_apply,
    val_main_call1_c_apply, argsort_apply, place_wrap]

/-- Every place is in range. -/
theorem mask_apply (b : Fin 8) (n : Fin 4096) (k : Fin 1024) : val_main_call1_v12 (F := Ideal) x0 x1 (ix3 b n k) = 1#1 := by
  unfold val_main_call1_v12
  refine Host.reduce_andi_one _ _ _ _ _ rfl fun i => ?_
  obtain ⟨b, n, k, e, rfl⟩ : ∃ b n k e, i = ix4 b n k e := ⟨_, _, _, _, ValueIdx.eq_ix4 i⟩
  rw [val_main_call1_v11_apply, val_main_call1_v7_apply, val_main_call1_v10_apply, places_along]
  rw [val_main_call1_v6_apply, val_main_call1_c_2_apply]
  have h1 : val_main_call1_v9 (F := Ideal) (ix4 b n k e) = 1023#32 := by
    rw [val_main_call1_v9_apply, val_main_call1_v8_apply, val_main_call1_c_1_apply]
  rw [h1]
  rw [place_ge, place_le]
  rfl

/-- The sorted distances. -/
theorem sorted_apply (b : Fin 8) (n : Fin 4096) (k : Fin 1024) :
    val_main_v15 (F := Ideal) x0 x1 (ix3 b n k) = val_main_v13 (F := Ideal) x0 x1 (ix3 b n (order x0 x1 b n k)) := by
  rw [val_main_v15_apply, mask_apply]
  show val_main_call1_v13 (F := Ideal) x0 x1 (ix3 b n k) = _
  unfold val_main_call1_v13
  refine (gather_elements (by decide) _ _ _ b n k).trans ?_
  refine congrArg (fun q => val_main_v13 (F := Ideal) x0 x1 (ix3 b n q)) ?_
  have h := places_along x0 x1 b n k 0
  exact place_clamp h _

/-- The three picked distances. -/
theorem picked_dist (b : Fin 8) (n : Fin 4096) (k : Fin 3) :
    val_main_v16 (F := Ideal) x0 x1 (ix3 b n k) = val_main_v13 (F := Ideal) x0 x1 (ix3 b n (picked x0 x1 b n k)) := by
  rw [val_main_v16_apply]
  refine Eq.trans (congrArg _ ?_) (sorted_apply x0 x1 b n (Fin.castLE (by decide) k))
  funext a
  match a with
  | ⟨0, _⟩ => rfl
  | ⟨1, _⟩ => rfl
  | ⟨2, _⟩ => rfl

theorem picked_place (b : Fin 8) (n : Fin 4096) (k : Fin 3) :
    val_main_v17 (F := Ideal) x0 x1 (ix3 b n k) = BitVec.ofNat 32 (picked x0 x1 b n k).val := by
  rw [val_main_v17_apply]
  refine Eq.trans (congrArg _ ?_) (argsort_apply x0 x1 b n (Fin.castLE (by decide) k))
  funext a
  match a with
  | ⟨0, _⟩ => rfl
  | ⟨1, _⟩ => rfl
  | ⟨2, _⟩ => rfl

theorem places_points (b : Fin 8) (n : Fin 4096) (k : Fin 3) (e : Fin 1) :
    val_main_v24 (F := Ideal) x0 x1 (ix4 b n k e) = BitVec.ofNat 32 (picked x0 x1 b n k).val := by
  have hi : idx_main_v24 (ix4 b n k e) = ix3 b n k := by
    funext a
    match a with
    | ⟨0, _⟩ => rfl
    | ⟨1, _⟩ => rfl
    | ⟨2, _⟩ => rfl
  rw [val_main_v24_apply, hi, val_main_v23_apply, val_main_v20_apply, val_main_v19_apply, val_main_c_apply, picked_place,
    place_wrap]

theorem places_features (b : Fin 8) (n : Fin 4096) (k : Fin 3) (e : Fin 1) :
    val_main_v45 (F := Ideal) x0 x1 (ix4 b n k e) = BitVec.ofNat 32 (picked x0 x1 b n k).val := by
  have hi : idx_main_v45 (ix4 b n k e) = ix3 b n k := by
    funext a
    match a with
    | ⟨0, _⟩ => rfl
    | ⟨1, _⟩ => rfl
    | ⟨2, _⟩ => rfl
  rw [val_main_v45_apply, hi, val_main_v44_apply, val_main_v41_apply, val_main_v40_apply, val_main_c_5_apply, picked_place,
    place_wrap]

/-- The picked points. -/
theorem picked_point (b : Fin 8) (n : Fin 4096) (k : Fin 3) (l : Fin 3) :
    val_main_v25 (F := Ideal) x0 x1 (ix4 b n k l) = x1 (ix3 b (picked x0 x1 b n k) l) := by
  unfold val_main_v25
  refine (gather_rows (by decide) _ _ _ b n k l).trans ?_
  refine congrArg (fun q => x1 (ix3 b q l)) ?_
  have h := places_points x0 x1 b n k 0
  exact place_clamp h _

/-- The picked points' features. -/
theorem picked_features (b : Fin 8) (n : Fin 4096) (k : Fin 3) (l : Fin 256) :
    val_main_v46 (F := Ideal) x0 x1 x3 (ix4 b n k l) = x3 (ix3 b (picked x0 x1 b n k) l) := by
  unfold val_main_v46
  refine (gather_rows (by decide) _ _ _ b n k l).trans ?_
  refine congrArg (fun q => x3 (ix3 b q l)) ?_
  have h := places_features x0 x1 b n k 0
  exact place_clamp h _

end Cert.Proof

end
end
-- ==== Proof.RLayer1.lean ====
module

public import proofs.«01_k».proof.Proof.RGather

/-! # The reference's first layer -/

@[expose] public section

set_option maxRecDepth 16384

noncomputable section

namespace Cert.Proof

open Cert.ReferenceIdeal Cert.ReferenceIdeal.Gen Cert.ReferenceIdeal.Read
open Idealize.ShloMosaic Idealize.ShloMosaic.TcCoe Idealize.ShloMosaic.Tactic

variable (x0 : Arr S8x4096x3) (x1 : Arr S8x1024x3) (x2 : Arr S8x4096x256) (x3 : Arr S8x1024x256) (x4 : Arr S4) (x5 : Arr S1)
  (x6 : Arr S256x512) (x7 : Arr S256)

/-- The relation's first channel is the distance. -/
theorem relation_zero (b : Fin 8) (n : Fin 4096) (k : Fin 3) :
    val_main_v29 (F := Ideal) x0 x1 (ix4 b n k 0) = val_main_v13 (F := Ideal) x0 x1 (ix3 b n (picked x0 x1 b n k)) := by
  rw [← picked_dist]
  unfold val_main_v29 val_main_v28
  generalize val_main_v16 (F := Ideal) x0 x1 = u
  generalize val_main_v27 (F := Ideal) x0 x1 = v
  pointwise

/-- The relation's other channels are the offset. -/
theorem relation_succ (b : Fin 8) (n : Fin 4096) (k : Fin 3) (l : Fin 3) :
    val_main_v29 (F := Ideal) x0 x1 (ix4 b n k l.succ) = x0 (ix3 b n l) - x1 (ix3 b (picked x0 x1 b n k) l) := by
  rw [← picked_point x0 x1 b n k l]
  unfold val_main_v29 val_main_v27 val_main_v26 val_main_v18
  generalize val_main_v25 (F := Ideal) x0 x1 = u
  generalize val_main_v28 (F := Ideal) x0 x1 = v
  pointwise
  rfl

/-- The weight of a picked point. -/
theorem weight_apply (b : Fin 8) (n : Fin 4096) (k : Fin 3) :
    val_main_v39 (F := Ideal) x0 x1 x4 x5 (ix3 b n k)
      = Ideal.logistic (∑ l, val_main_v29 (F := Ideal) x0 x1 (ix4 b n k l) * x4 (ix1 l) + x5 (ix1 0)) := by
  have hb : val_main_v32 (F := Ideal) x5 (ix3 b n k) = x5 (ix1 0) := by
    rw [val_main_v32_apply]
    unfold val_main_v31
    refine congrArg x5 (funext fun a => ?_)
    match a with
    | ⟨0, _⟩ => exact Subsingleton.elim (α := Fin 1) _ _
  have hd : val_main_v30 (F := Ideal) x0 x1 x4 (ix3 b n k)
      = ∑ l, val_main_v29 (F := Ideal) x0 x1 (ix4 b n k l) * x4 (ix1 l) := by
    rw [val_main_v30_apply]
    refine Finset.sum_congr rfl fun l _ => congrArg₂ (· * ·) (congrArg _ (funext fun a => ?_)) (congrArg x4 (funext fun a => ?_))
    · match a with
      | ⟨0, _⟩ => rfl
      | ⟨1, _⟩ => rfl
      | ⟨2, _⟩ => rfl
      | ⟨3, _⟩ => rfl
    · match a with
      | ⟨0, _⟩ => rfl
  rw [val_main_v39_apply, val_main_v38_apply, val_main_v37_apply, val_main_v36_apply, val_main_v35_apply, val_main_v34_apply,
    val_main_v33_apply, val_main_cst_3_apply, val_main_cst_4_apply, hb, hd]
  generalize ∑ l, val_main_v29 (F := Ideal) x0 x1 (ix4 b n k l) * x4 (ix1 l) = u
  have h1 : (FloatOps.ofBits .f32 0x3F800000#32 : Ideal .f32) = (1 : EReal) := by
    show Ideal.ofBits .f32 0x3F800000#32 = 1
    have : Ideal.ofBits .f32 0x3F800000#32 = ((1 : ℝ) : EReal) := by
      simp [Ideal.ofBits, Ideal.ieee, -EReal.coe_mul]
      norm_num
    exact this
  rw [h1]
  rfl

/-- The mean of the three weighted feature rows. -/
theorem mean_apply (b : Fin 8) (n : Fin 4096) (x : Fin 256) :
    val_main_v52 (F := Ideal) x0 x1 x3 x4 x5 (ix3 b n x)
      = Ideal.div (∑ k, x3 (ix3 b (picked x0 x1 b n k) x) * val_main_v39 (F := Ideal) x0 x1 x4 x5 (ix3 b n k)) ((3 : ℝ) : EReal) := by
  have hs : val_main_v50 (F := Ideal) x0 x1 x3 x4 x5 (ix3 b n x)
      = ∑ k, x3 (ix3 b (picked x0 x1 b n k) x) * val_main_v39 (F := Ideal) x0 x1 x4 x5 (ix3 b n k) := by
    rw [val_main_v50_apply, val_main_cst_7_apply]
    show Ideal.ofBits .f32 0x00000000#32 + _ = _
    rw [Ideal.ofBits_zero_f32, zero_add]
    refine Finset.sum_congr rfl fun k _ => ?_
    have hi : idx_main_v50 (ix3 b n x) k = ix4 b n k x := by
      funext a
      match a with
      | ⟨0, _⟩ => rfl
      | ⟨1, _⟩ => rfl
      | ⟨2, _⟩ => rfl
      | ⟨3, _⟩ => rfl
    have hw : idx_main_v47 (idx_main_v48 (ix4 b n k x)) = ix3 b n k := by
      funext a
      match a with
      | ⟨0, _⟩ => rfl
      | ⟨1, _⟩ => rfl
      | ⟨2, _⟩ => rfl
    rw [hi, val_main_v49_apply, picked_features, val_main_v48_apply, val_main_v47_apply, hw]
    rfl
  rw [val_main_v52_apply, hs, val_main_v51_apply, val_main_cst_8_apply]
  generalize ∑ k, x3 (ix3 b (picked x0 x1 b n k) x) * val_main_v39 (F := Ideal) x0 x1 x4 x5 (ix3 b n k) = u
  have h3 : (FloatOps.ofBits .f32 0x40400000#32 : Ideal .f32) = ((3 : ℝ) : EReal) := word_three
  rw [h3]
  rfl

/-- The first layer's values. -/
theorem layer1_apply (b : Fin 8) (n : Fin 4096) (j : Fin 256) :
    val_main_v59 (F := Ideal) x0 x1 x2 x3 x4 x5 x6 x7 (ix3 b j n)
      = ∑ x : Fin 256, x6 (ix2 j (Fin.castLE (by decide) x)) * x2 (ix3 b n x)
        + ∑ x : Fin 256, x6 (ix2 j (Fin.natAdd 256 x)) * val_main_v52 (F := Ideal) x0 x1 x3 x4 x5 (ix3 b n x)
        + x7 (ix1 j) := by
  unfold val_main_v59 val_main_v58 val_main_v57 val_main_v56 val_main_v55 val_main_v54 val_main_v53
  generalize val_main_v52 (F := Ideal) x0 x1 x3 x4 x5 = u
  pointwise
  rfl

end Cert.Proof

end
end
-- ==== Proof.RReal.lean ====
module

public import proofs.«01_k».proof.Proof.Reals
public import proofs.«01_k».proof.Proof.RLayer1
public import proofs.«01_k».proof.Proof.Model

/-! # The reference's result is the kernel's formula

With the clouds, the features and all weights before the last normalisation real numbers, the reference's result is
the result the kernel computes, for the points the reference picked. -/

@[expose] public section

set_option maxRecDepth 16384

noncomputable section

namespace Cert.Proof

open Cert.ReferenceIdeal Cert.ReferenceIdeal.Gen Cert.ReferenceIdeal.Read
open Idealize.ShloMosaic Idealize.ShloMosaic.TcCoe

variable (x0 : Arr S8x4096x3) (x1 : Arr S8x1024x3) (x2 : Arr S8x4096x256) (x3 : Arr S8x1024x256) (x4 : Arr S4) (x5 : Arr S1)
  (x6 : Arr S256x512) (x7 x8 x9 : Arr S256) (x10 : Arr S256x256) (x11 x12 x13 : Arr S256)

/-- The arguments the equality asks to be real numbers. -/
structure Finite : Prop where
  h0 : ∀ i, IsReal (x0 i)
  h1 : ∀ i, IsReal (x1 i)
  h2 : ∀ i, IsReal (x2 i)
  h3 : ∀ i, IsReal (x3 i)
  h4 : ∀ i, IsReal (x4 i)
  h6 : ∀ i, IsReal (x6 i)
  h7 : ∀ i, IsReal (x7 i)
  h8 : ∀ i, IsReal (x8 i)
  h9 : ∀ i, IsReal (x9 i)
  h10 : ∀ i, IsReal (x10 i)
  h11 : ∀ i, IsReal (x11 i)

variable {x0 x1 x2 x3 x4 x6 x7 x8 x9 x10 x11} (h : Finite x0 x1 x2 x3 x4 x6 x7 x8 x9 x10 x11)
include h

theorem dist_real (b : Fin 8) (n : Fin 4096) (s : Fin 1024) : IsReal (val_main_v13 (F := Ideal) x0 x1 (ix3 b n s)) := by
  rw [dist_apply]
  exact (((isReal_coe _).mul (IsReal.sum _ fun k => (h.h0 _).mul (h.h1 _))).add (IsReal.sum _ fun k => (h.h0 _).mul (h.h0 _))).add
    (IsReal.sum _ fun k => (h.h1 _).mul (h.h1 _))

/-- The reference's weight, times a third, is the kernel's. -/
theorem weight_eq (b : Fin 8) (n : Fin 4096) (k : Fin 3) :
    val_main_v39 (F := Ideal) x0 x1 x4 x5 (ix3 b n k) * ((1 / 3 : ℝ) : EReal)
      = (inOf x0 x1 x2 x3 x4 x5 x6 x7 x8 x9 x10 x11 x12 x13).wt b n (picked x0 x1 b n k) := by
  have hd := dist_real h b n (picked x0 x1 b n k)
  have hs := relation_sum (d := val_main_v13 (F := Ideal) x0 x1 (ix3 b n (picked x0 x1 b n k))) (u := fun l => x0 (ix3 b n l))
    (v := fun l => x1 (ix3 b (picked x0 x1 b n k) l)) (w := fun l => x4 (ix1 l)) hd (fun l => h.h0 _) (fun l => h.h1 _) (fun l => h.h4 _)
    (x5 (ix1 0))
  rw [weight_apply, Fin.sum_univ_succ, Fin.sum_univ_three, relation_zero, relation_succ, relation_succ, relation_succ]
  unfold In.wt weight
  refine congrArg (fun e => Ideal.logistic e * ((1 / 3 : ℝ) : EReal)) ?_
  refine Eq.trans ?_ (hs.trans ?_)
  · rfl
  · rw [dist_apply]
    rfl

theorem sigma_real (b : Fin 8) (n : Fin 4096) (k : Fin 3) : IsReal (val_main_v39 (F := Ideal) x0 x1 x4 x5 (ix3 b n k)) := by
  rw [weight_apply]
  exact isReal_logistic _

/-- The reference's mean over the three picked points is the kernel's weighted sum. -/
theorem mean_eq (b : Fin 8) (n : Fin 4096) (x : Fin 256) :
    val_main_v52 (F := Ideal) x0 x1 x3 x4 x5 (ix3 b n x)
      = ∑ k, (inOf x0 x1 x2 x3 x4 x5 x6 x7 x8 x9 x10 x11 x12 x13).wt b n (picked x0 x1 b n k)
          * (inOf x0 x1 x2 x3 x4 x5 x6 x7 x8 x9 x10 x11 x12 x13).p2 b (picked x0 x1 b n k) x := by
  rw [mean_apply, mean_three (fun k => h.h3 _) (fun k => sigma_real x5 h b n k)]
  refine Finset.sum_congr rfl fun k _ => ?_
  rw [weight_eq x5 x12 x13 h]
  rfl

theorem mean_real (b : Fin 8) (n : Fin 4096) (x : Fin 256) : IsReal (val_main_v52 (F := Ideal) x0 x1 x3 x4 x5 (ix3 b n x)) := by
  rw [mean_apply, mean_three (fun k => h.h3 _) (fun k => sigma_real x5 h b n k)]
  exact IsReal.sum _ fun k => ((sigma_real x5 h b n k).mul (isReal_coe _)).mul (h.h3 _)

theorem first_eq : first x0 x1 x2 x3 x4 x5 x6 x7
    = (inOf x0 x1 x2 x3 x4 x5 x6 x7 x8 x9 x10 x11 x12 x13).layer1 (picked x0 x1) := by
  funext b n j
  unfold first In.layer1
  rw [layer1_apply]
  refine congrArg₂ (· + ·) (congrArg₂ (· + ·) ?_ ?_) rfl
  · exact Finset.sum_congr rfl fun x _ => mul_comm _ _
  · refine Finset.sum_congr rfl fun x _ => ?_
    rw [← mean_eq x5 x12 x13 h, mul_comm]
    rfl

theorem first_real (b : Fin 8) (n : Fin 4096) (j : Fin 256) : IsReal (first x0 x1 x2 x3 x4 x5 x6 x7 b n j) := by
  unfold first
  rw [layer1_apply]
  exact ((IsReal.sum _ fun x => (h.h6 _).mul (h.h2 _)).add (IsReal.sum _ fun x => (h.h6 _).mul (mean_real x5 h b n x))).add (h.h7 _)

theorem second_eq : second x0 x1 x2 x3 x4 x5 x6 x7 x8 x9 x10 x11
    = (inOf x0 x1 x2 x3 x4 x5 x6 x7 x8 x9 x10 x11 x12 x13).layer2
        ((inOf x0 x1 x2 x3 x4 x5 x6 x7 x8 x9 x10 x11 x12 x13).layer1 (picked x0 x1)) := by
  funext b n j
  rw [second_apply, ← first_eq x5 x12 x13 h]
  unfold In.layer2
  refine congrArg₂ (· + ·) (Finset.sum_congr rfl fun x _ => ?_) rfl
  rw [standard_first, (standard_eq (first_real x5 h) _ _ b n x).1, mul_comm]
  rfl

theorem second_real (b : Fin 8) (n : Fin 4096) (j : Fin 256) : IsReal (second x0 x1 x2 x3 x4 x5 x6 x7 x8 x9 x10 x11 b n j) := by
  rw [second_apply]
  refine (IsReal.sum _ fun x => (h.h10 _).mul ?_).add (h.h11 _)
  have e := standard_eq (first_real x5 h) (fun j => x8 (ix1 j)) (fun j => x9 (ix1 j)) b n x
  rw [standard_first, e.1]
  exact e.2 (h.h8 _) (h.h9 _)

/-- The reference's result. -/
theorem reference_value (b : Fin 8) (n : Fin 4096) (j : Fin 256) :
    val_main_v103 (F := Ideal) x0 x1 x2 x3 x4 x5 x6 x7 x8 x9 x10 x11 x12 x13 (ix3 b n j)
      = (inOf x0 x1 x2 x3 x4 x5 x6 x7 x8 x9 x10 x11 x12 x13).result (picked x0 x1) b n j := by
  rw [result_apply, (standard_eq (second_real x5 h) _ _ b n j).1, second_eq x5 x12 x13 h]
  rfl

end Cert.Proof

end
end
-- ==== Proof.Pre.lean ====
module

public import proofs.«01_k».proof.Pre_finite
public import proofs.«01_k».proof.Proof.RReal
public import Idealize.ShloMosaic.Lib.ReduceAll

/-! # The precondition read back

`finite` asks of eleven arguments that the absolute value of every element be below infinity: every element of them is
a real number. -/

@[expose] public section

set_option maxRecDepth 16384

noncomputable section

namespace Cert.Proof

open Cert.Pre_finite
open Idealize.ShloMosaic

/-- The facts the predicate's operations take. -/
instance preFacts : Cert.Pre_finite.Facts where
  bcast_S_S8x4096x3 := by decide
  reducesTo_S8x4096x3_S_d0_1_2 := by decide
  h_S_ := by decide
  bcast_S_S8x1024x3 := by decide
  reducesTo_S8x1024x3_S_d0_1_2 := by decide
  bcast_S_S8x4096x256 := by decide
  reducesTo_S8x4096x256_S_d0_1_2 := by decide
  bcast_S_S8x1024x256 := by decide
  reducesTo_S8x1024x256_S_d0_1_2 := by decide
  bcast_S_S4 := by decide
  reducesTo_S4_S_d0 := by decide
  bcast_S_S256x512 := by decide
  reducesTo_S256x512_S_d0_1 := by decide
  bcast_S_S256 := by decide
  reducesTo_S256_S_d0 := by decide
  bcast_S_S256x256 := by decide
  reducesTo_S256x256_S_d0_1 := by decide

instance : Subsingleton S_.Idx := ⟨fun a b => funext fun i => i.elim0⟩

theorem word_infinity : (FloatOps.ofBits .f32 0x7F800000#32 : Ideal .f32) = (⊤ : EReal) := by
  show Ideal.ofBits .f32 0x7F800000#32 = ⊤
  simp [Ideal.ofBits, Ideal.ieee]

/-- An extended real whose absolute value is below infinity is a real number. -/
theorem isReal_of_abs_lt {x : EReal} (h : max x (-x) < ⊤) : IsReal x := by
  induction x using EReal.rec with
  | bot => simp at h
  | top => simp at h
  | coe r => exact isReal_coe r

/-- One argument's part of the predicate. -/
theorem part_real {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : IsReal (x i) := by
  have h := Host.reduce_andi_all _ _ hr hu j e i
  have h' : Ideal.cmp .olt (max (x i) (-(x i))) (FloatOps.ofBits .f32 0x7F800000#32 : Ideal .f32) = 1#1 := h
  rw [word_infinity] at h'
  refine isReal_of_abs_lt ?_
  by_contra hn
  simp [Ideal.cmp, hn] at h'

/-- The predicate holds: the eleven arguments are real. -/
theorem finite_of_pre (x0 : FVec Ideal S8x4096x3 .f32) (x1 : FVec Ideal S8x1024x3 .f32) (x2 : FVec Ideal S8x4096x256 .f32)
    (x3 : FVec Ideal S8x1024x256 .f32) (x4 : FVec Ideal S4 .f32) (x5 : FVec Ideal S1 .f32) (x6 : FVec Ideal S256x512 .f32)
    (x7 x8 x9 : FVec Ideal S256 .f32) (x10 : FVec Ideal S256x256 .f32) (x11 x12 x13 : FVec Ideal S256 .f32)
    (h : Cert.Pre_finite.fn (F := Ideal) x0 x1 x2 x3 x4 x5 x6 x7 x8 x9 x10 x11 x12 x13 = fun _ => 1#1) :
    Finite x0 x1 x2 x3 x4 x6 x7 x8 x9 x10 x11 := by
  have e := congrFun h (fun i => i.elim0)
  unfold Cert.Pre_finite.fn Cert.Pre_finite.fn_part1 Cert.Pre_finite.fn_part2 Cert.Pre_finite.fn_part3 at e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨part_real x0 _ _ _ _ e0, part_real x1 _ _ _ _ e1, part_real x2 _ _ _ _ e2, part_real x3 _ _ _ _ e3, part_real x4 _ _ _ _ e4,
    part_real x6 _ _ _ _ e6, part_real x7 _ _ _ _ e7, part_real x8 _ _ _ _ e8, part_real x9 _ _ _ _ e9, part_real x10 _ _ _ _ e10,
    part_real x11 _ _ _ _ e11⟩

end Cert.Proof

end
end
-- ==== Proof.KReg0.lean ====
module

public import proofs.«01_k».proof.Proof.Gen.KernelIdeal.Frame
public import proofs.«01_k».proof.Proof.KRow
public import Idealize.ShloMosaic.Lib.Pipeline.ValueKit.Acc
public import Idealize.ShloMosaic.Lib.Pipeline.ValueKit.Geometry
public import Idealize.ShloMosaic.Lib.Pointwise
public import Idealize.ShloMosaic.Lib.Tactic

/-! # The first kernel's outputs, from its input blocks

At every point the kernel writes one block of the first layer's values, and adds the block's column sums and the column
sums of its squares to two running rows. -/

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI

/-- A scalar load of the five relation words reads that word. -/
theorem ld_word (x0 : Vec Ideal S5 .f32) (k : Nat) (hk : k < 5) (inb) (i : (Rect.unit (s := S5) ![k] ![1] inb).shape.Idx) :
    View.ld x0 (Rect.unit (s := S5) ![k] ![1] inb) i = x0 (ix1 ⟨k, hk⟩) := by
  show x0 _ = x0 _
  congr 1
  funext a
  apply Fin.ext
  have h0 : a = 0 := Subsingleton.elim _ _
  subst h0
  have h1 : ((i 0 : Fin _) : Nat) < 1 := (i 0).isLt
  show (k : Nat) + 1 * ((i 0 : Fin _) : Nat) = k
  omega

/-- The weight rows of a block of points: the relation words, the points, the other cloud's points. -/
def marks (x0 : Vec Ideal S5 .f32) (x1 : Vec Ideal S1x2048x3 .f32) (x2 : Vec Ideal S1x3x1024 .f32) : FVec Ideal S2048x1024 .f32 :=
  k0_pay17 (F := Ideal) (x0 (ix1 ⟨0, by decide⟩)) (x0 (ix1 ⟨4, by decide⟩)) (k0_pay5 (F := Ideal) x1 (x0 (ix1 ⟨1, by decide⟩)) (x0 (ix1 ⟨2, by decide⟩)) (x0 (ix1 ⟨3, by decide⟩)))
    (k0_pay8 (F := Ideal) (k0_pay3 x2) (k0_pay6 x2 (x0 (ix1 ⟨1, by decide⟩))) (k0_pay7 x2 (x0 (ix1 ⟨2, by decide⟩))) (x0 (ix1 ⟨3, by decide⟩))) (k0_pay9 (F := Ideal))
    (k0_pay12 (F := Ideal) (k0_pay3 x2) (k0_pay4 x1 x2) (x0 (ix1 ⟨0, by decide⟩)) (x0 (ix1 ⟨4, by decide⟩))
      (k0_pay5 (F := Ideal) x1 (x0 (ix1 ⟨1, by decide⟩)) (x0 (ix1 ⟨2, by decide⟩)) (x0 (ix1 ⟨3, by decide⟩))) (k0_pay6 x2 (x0 (ix1 ⟨1, by decide⟩))) (k0_pay7 x2 (x0 (ix1 ⟨2, by decide⟩)))
      (x0 (ix1 ⟨3, by decide⟩)))
    (k0_pay13 (k0_pay4 x1 x2)) (k0_pay14 (k0_pay4 x1 x2)) (k0_pay15 (k0_pay4 x1 x2)) (k0_pay16 (k0_pay4 x1 x2))

/-- A block of the first layer's values. -/
def z1blk (x0 : Vec Ideal S5 .f32) (x1 : Vec Ideal S1x2048x3 .f32) (x2 : Vec Ideal S1x3x1024 .f32)
    (x3 : Vec Ideal S1x2048x256 .f32) (x4 : Vec Ideal S1x1024x256 .f32) (x5 : Vec Ideal S512x256 .f32)
    (x6 : Vec Ideal S1x256 .f32) : FVec Ideal S2048x256 .f32 :=
  k0_pay18 (F := Ideal) (marks x0 x1 x2) x4 x3 (View.ld x5 (Rect.unit (s := S512x256) ![0, 0] ![256, 256] inb_S512x256_S256x256_0_0))
    (View.ld x5 (Rect.unit (s := S512x256) ![256, 0] ![256, 256] inb_S512x256_S256x256_256_0)) x6

variable (V : (c : Dev nD) → (b : Ref sig .tc) → Buf (Elt Ideal) ((c : Thread nD τ).loc b)) (c : Dev nD)

/-- The block written at a point. -/
abbrev zAt0 (t : Fin cfg0.N) : FVec Ideal S2048x256 .f32 :=
  z1blk (iblk0 V c 0 t) (iblk0 V c 1 t) (iblk0 V c 2 t) (iblk0 V c 3 t) (iblk0 V c 4 t) (iblk0 V c 5 t) (iblk0 V c 6 t)

theorem pay19_apply (v137 : FVec Ideal S2048x1024 .f32) (v138 : Vec Ideal S1x1024x256 .f32) (v141 : Vec Ideal S1x2048x256 .f32)
    (v143 v146 : Vec Ideal S256x256 .f32) (v150 : Vec Ideal S1x256 .f32) (r : Fin 2048) (j : Fin 256) :
    k0_pay19 (F := Ideal) v137 v138 v141 v143 v146 v150 (ix2 r j)
      = k0_pay18 (F := Ideal) v137 v138 v141 v143 v146 v150 (ix2 r j) := by
  unfold k0_pay19
  pointwise

theorem outs0_z (t : Fin cfg0.N) (r : Fin 2048) (j : Fin 256) :
    (outsAt0 V c t.val t.isLt).1 (ix2 r j) = zAt0 V c t (ix2 r j) := by
  by_cases h : t.val % 16 = 0
  · rw [outsAt0_A V c t h]
    frame_out
    rw [ld_word _ 0 (by decide), ld_word _ 1 (by decide), ld_word _ 2 (by decide), ld_word _ 3 (by decide),
      ld_word _ 4 (by decide)]
    rw [pay19_apply]
    unfold zAt0 z1blk marks
    with_reducible rfl
  · rw [outsAt0_B V c t h]
    frame_out
    rw [ld_word _ 0 (by decide), ld_word _ 1 (by decide), ld_word _ 2 (by decide), ld_word _ 3 (by decide),
      ld_word _ 4 (by decide)]
    rw [pay19_apply]
    unfold zAt0 z1blk marks
    with_reducible rfl

/-- The added column sums of a block. -/
theorem sum_step (v137 : FVec Ideal S2048x1024 .f32) (v138 : Vec Ideal S1x1024x256 .f32) (v141 : Vec Ideal S1x2048x256 .f32)
    (v143 v146 : Vec Ideal S256x256 .f32) (v150 v161 : Vec Ideal S1x256 .f32) (j : Fin 256) :
    k0_pay22 (F := Ideal) v137 v138 v141 v143 v146 v150 v161 (ix2 0 j)
      = v161 (ix2 0 j) + ∑ x : Fin 2048, k0_pay18 (F := Ideal) v137 v138 v141 v143 v146 v150 (ix2 x j) := by
  unfold k0_pay22
  pointwise

/-- The added column sums of a block's squares. -/
theorem square_step (v153 : FVec Ideal S2048x256 .f32) (v167 : Vec Ideal S1x256 .f32) (j : Fin 256) :
    k0_pay1 (F := Ideal) v153 (k0_pay23 v167) (ix2 0 j)
      = v167 (ix2 0 j) + ∑ x : Fin 2048, v153 (ix2 x j) * v153 (ix2 x j) := by
  unfold k0_pay1 k0_pay23
  pointwise

theorem zero_s (j : Fin 256) : k0_pay20 (F := Ideal) (ix2 0 j) = 0 := by
  unfold k0_pay20
  pointwise

theorem zero_q (j : Fin 256) : k0_pay21 (F := Ideal) (ix2 0 j) = 0 := by
  unfold k0_pay21
  pointwise

/-- The running row of sums after the last point. -/
theorem outs0_s (t : Fin cfg0.N) (ht : t.val + 1 = cfg0.N) (j : Fin 256) :
    (outsAt0 V c t.val t.isLt).2.1 (ix2 0 j) = ∑ p : Fin cfg0.N, ∑ x : Fin 2048, zAt0 V c p (ix2 x j) := by
  rw [Pipeline.eq_sum_fin_of_reset_step_apply_last (fun n h (j : Fin 256) => (outsAt0 V c n h).2.1 (ix2 0 j)) 16
    (fun _ => (0 : EReal)) (fun p j => ∑ x : Fin 2048, zAt0 V c p (ix2 x j))
    (fun t h j => by
      rw [outsAt0_A V c t h]
      frame_out
      rw [ld_word _ 0 (by decide), ld_word _ 1 (by decide), ld_word _ 2 (by decide), ld_word _ 3 (by decide),
        ld_word _ 4 (by decide)]
      rw [sum_step, zero_s]
      unfold zAt0 z1blk marks
      with_reducible rfl)
    (fun t h j => by
      rw [outsAt0_B V c t h]
      frame_out
      rw [ld_word _ 0 (by decide), ld_word _ 1 (by decide), ld_word _ 2 (by decide), ld_word _ 3 (by decide),
        ld_word _ 4 (by decide)]
      rw [sum_step]
      unfold zAt0 z1blk marks
      with_reducible rfl)
    (le_of_eq N_0) t ht j, zero_add]

/-- The running row of squares after the last point. -/
theorem outs0_q (t : Fin cfg0.N) (ht : t.val + 1 = cfg0.N) (j : Fin 256) :
    (outsAt0 V c t.val t.isLt).2.2 (ix2 0 j)
      = ∑ p : Fin cfg0.N, ∑ x : Fin 2048, zAt0 V c p (ix2 x j) * zAt0 V c p (ix2 x j) := by
  rw [Pipeline.eq_sum_fin_of_reset_step_apply_last (fun n h (j : Fin 256) => (outsAt0 V c n h).2.2 (ix2 0 j)) 16
    (fun _ => (0 : EReal)) (fun p j => ∑ x : Fin 2048, zAt0 V c p (ix2 x j) * zAt0 V c p (ix2 x j))
    (fun t h j => by
      rw [outsAt0_A V c t h]
      frame_out
      rw [ld_word _ 0 (by decide), ld_word _ 1 (by decide), ld_word _ 2 (by decide), ld_word _ 3 (by decide),
        ld_word _ 4 (by decide)]
      rw [square_step, zero_q]
      unfold zAt0 z1blk marks
      with_reducible rfl)
    (fun t h j => by
      rw [outsAt0_B V c t h]
      frame_out
      rw [ld_word _ 0 (by decide), ld_word _ 1 (by decide), ld_word _ 2 (by decide), ld_word _ 3 (by decide),
        ld_word _ 4 (by decide)]
      rw [square_step]
      unfold zAt0 z1blk marks
      with_reducible rfl)
    (le_of_eq N_0) t ht j, zero_add]

end Cert.Proof

end
end
-- ==== Proof.KArr0.lean ====
module

public import proofs.«01_k».proof.Proof.KReg0

/-! # The first kernel's blocks and arrays, at coordinates -/

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat)

variable (V : (c : Dev nD) → (b : Ref sig .tc) → Buf (Elt Ideal) ((c : Thread nD τ).loc b)) (c : Dev nD)

theorem at0_0 : ∀ t : Fin cfg0.N, win0_0.index t = ![0] := (by decide +kernel : ∀ t : Fin grid0.N, _)
theorem at0_1 : ∀ t : Fin cfg0.N, win0_1.index t = ![t.val / 2, t.val % 2, 0] := (by decide +kernel : ∀ t : Fin grid0.N, _)
theorem at0_2 : ∀ t : Fin cfg0.N, win0_2.index t = ![t.val / 2, 0, 0] := (by decide +kernel : ∀ t : Fin grid0.N, _)
theorem at0_3 : ∀ t : Fin cfg0.N, win0_3.index t = ![t.val / 2, t.val % 2, 0] := (by decide +kernel : ∀ t : Fin grid0.N, _)
theorem at0_4 : ∀ t : Fin cfg0.N, win0_4.index t = ![t.val / 2, 0, 0] := (by decide +kernel : ∀ t : Fin grid0.N, _)
theorem at0_5 : ∀ t : Fin cfg0.N, win0_5.index t = ![0, 0] := (by decide +kernel : ∀ t : Fin grid0.N, _)
theorem at0_6 : ∀ t : Fin cfg0.N, win0_6.index t = ![0, 0] := (by decide +kernel : ∀ t : Fin grid0.N, _)
theorem at0_7 : ∀ t : Fin cfg0.N, win0_7.index t = ![t.val, 0] := (by decide +kernel : ∀ t : Fin grid0.N, _)

/-- The batch entry of a point. -/
def bOf (t : Fin cfg0.N) : Fin 8 := ⟨t.val / 2, by have h : t.val < 16 := lt_of_lt_of_eq t.isLt N_0; omega⟩

/-- The row of the whole cloud that row `r` of the block of point `t` is. -/
def nOf (t : Fin cfg0.N) (r : Fin 2048) : Fin 4096 := ⟨t.val % 2 * 2048 + r.val, by have := r.isLt; omega⟩

theorem blk0_0 (t : Fin cfg0.N) (k : Fin 5) : iblk0 V c 0 t (ix1 k) = V c main_v1 (ix1 k) := by
  blk_simp [iblk0]
  blk_ext [at0_0 t]

theorem blk0_1 (t : Fin cfg0.N) (r : Fin 2048) (k : Fin 3) :
    iblk0 V c 1 t (ix3 0 r k) = V c main_arg0 (ix3 (bOf t) (nOf t r) k) := by
  blk_simp [iblk0]
  blk_ext [at0_1 t, bOf, nOf]

theorem blk0_2 (t : Fin cfg0.N) (k : Fin 3) (s : Fin 1024) :
    iblk0 V c 2 t (ix3 0 k s) = V c main_v0 (ix3 (bOf t) k s) := by
  blk_simp [iblk0]
  blk_ext [at0_2 t, bOf]

theorem blk0_3 (t : Fin cfg0.N) (r : Fin 2048) (k : Fin 256) :
    iblk0 V c 3 t (ix3 0 r k) = V c main_arg2 (ix3 (bOf t) (nOf t r) k) := by
  blk_simp [iblk0]
  blk_ext [at0_3 t, bOf, nOf]

theorem blk0_4 (t : Fin cfg0.N) (s : Fin 1024) (k : Fin 256) :
    iblk0 V c 4 t (ix3 0 s k) = V c main_arg3 (ix3 (bOf t) s k) := by
  blk_simp [iblk0]
  blk_ext [at0_4 t, bOf]

theorem blk0_5 (t : Fin cfg0.N) (s : Fin 512) (k : Fin 256) :
    iblk0 V c 5 t (ix2 s k) = V c main_v2 (ix2 s k) := by
  blk_simp [iblk0]
  blk_ext [at0_5 t]

theorem blk0_6 (t : Fin cfg0.N) (k : Fin 256) : iblk0 V c 6 t (ix2 0 k) = V c main_v4 (ix2 0 k) := by
  blk_simp [iblk0]
  blk_ext [at0_6 t]

/-- The point whose block a row lies in. -/
def tOf (R : Fin 32768) : Fin cfg0.N := ⟨R.val / 2048, lt_of_lt_of_eq (by have := R.isLt; omega : R.val / 2048 < 16) N_0.symm⟩

/-- A row's place in its block. -/
def rOf (R : Fin 32768) : Fin 2048 := ⟨R.val % 2048, by omega⟩

/-- The first layer's values, over all rows. -/
def zArr0 (i : S32768x256.Idx) : EReal :=
  zAt0 V c (tOf (i 0)) (ix2 (rOf (i 0)) (i 1))

/-- Row `r` of the block of point `t`, among all rows. -/
def rowAt (t : Fin cfg0.N) (r : Fin 2048) : Fin 32768 :=
  ⟨t.val * 2048 + r.val, by have h : t.val < 16 := lt_of_lt_of_eq t.isLt N_0; have := r.isLt; omega⟩

theorem tOf_rowAt (t : Fin cfg0.N) (r : Fin 2048) : tOf (rowAt t r) = t := by
  apply Fin.ext
  show (t.val * 2048 + r.val) / 2048 = t.val
  have := r.isLt
  omega

theorem rOf_rowAt (t : Fin cfg0.N) (r : Fin 2048) : rOf (rowAt t r) = r := by
  apply Fin.ext
  show (t.val * 2048 + r.val) % 2048 = r.val
  have := r.isLt
  omega

theorem zArr0_rowAt (t : Fin cfg0.N) (r : Fin 2048) (j : Fin 256) :
    zArr0 V c (ix2 (rowAt t r) j) = zAt0 V c t (ix2 r j) := by
  show zAt0 V c (tOf (rowAt t r)) (ix2 (rOf (rowAt t r)) j) = _
  rw [tOf_rowAt, rOf_rowAt]

theorem arr0_z : (dat0 V c).arrAt 7 cfg0.N = zArr0 V c := by
  refine Dat.arrAt_eq_of_covers _ 7 _ (by decide +kernel) fun t hf y => ?_
  blk_simp
  rw [after0_7]
  idx_vars y
  have e : ((win0_7.blk t).view.emb (ix2 y0 y1)) = ix2 (rowAt t y0) y1 := by
    blk_ext [at0_7 t, rowAt]
  rw [outs0_z]
  refine (zArr0_rowAt V c t y0 y1).symm.trans ?_
  exact congrArg (zArr0 V c) e.symm

/-- The last point. -/
def last0 : Fin cfg0.N := ⟨15, lt_of_lt_of_eq (by decide : 15 < 16) N_0.symm⟩

/-- A sum over points and rows of a block, as a sum over all rows. -/
theorem sum_rows0 (f : Fin 32768 → EReal) :
    ∑ p : Fin cfg0.N, ∑ x : Fin 2048, f (rowAt p x) = ∑ R : Fin 32768, f R := by
  have h := Fin.sum_mul_add_fin 16 2048 f (by decide)
  rw [← h]
  exact Fintype.sum_equiv (finCongr N_0) _ _ fun p => rfl

theorem arr0_s (j : Fin 256) : (dat0 V c).arrAt 8 cfg0.N (ix2 0 j) = ∑ R : Fin 32768, zArr0 V c (ix2 R j) := by
  refine (Dat.arrAt_emb_eq_after_last (dat0 V c) 8 last0 (by decide +kernel) (ix2 0 j)).trans ?_
  blk_simp
  rw [after0_8]
  refine (outs0_s V c last0 N_0.symm j).trans ?_
  rw [← sum_rows0]
  refine Finset.sum_congr rfl fun p _ => Finset.sum_congr rfl fun x _ => (zArr0_rowAt V c p x j).symm

theorem arr0_q (j : Fin 256) :
    (dat0 V c).arrAt 9 cfg0.N (ix2 0 j) = ∑ R : Fin 32768, zArr0 V c (ix2 R j) * zArr0 V c (ix2 R j) := by
  refine (Dat.arrAt_emb_eq_after_last (dat0 V c) 9 last0 (by decide +kernel) (ix2 0 j)).trans ?_
  blk_simp
  rw [after0_9]
  refine (outs0_q V c last0 N_0.symm j).trans ?_
  rw [← sum_rows0 fun R => zArr0 V c (ix2 R j) * zArr0 V c (ix2 R j)]
  refine Finset.sum_congr rfl fun p _ => Finset.sum_congr rfl fun x _ => ?_
  rw [zArr0_rowAt]

end Cert.Proof

end
end
-- ==== Proof.KArr1.lean ====
module

public import proofs.«01_k».proof.Proof.Gen.KernelIdeal.Frame
public import proofs.«01_k».proof.Proof.Norm
public import Idealize.ShloMosaic.Lib.Pipeline.ValueKit.Acc
public import Idealize.ShloMosaic.Lib.Pipeline.ValueKit.Geometry
public import Idealize.ShloMosaic.Lib.Pointwise
public import Idealize.ShloMosaic.Lib.Tactic

/-! # The second kernel's outputs and arrays

At every point the kernel normalises a block of the first layer's values, applies the second layer, and adds the block's
column sums and the column sums of its squares to two running rows. -/

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat)

/-- A value of the second layer, at coordinates. -/
theorem layer2_apply (v0 v4 v10 : Vec Ideal S1x256 .f32) (v16 : Vec Ideal S8192x256 .bf16) (v23 : Vec Ideal S1x256 .f32)
    (v29 : Vec Ideal S256x256 .f32) (v32 : Vec Ideal S1x256 .f32) (r : Fin 8192) (j : Fin 256) :
    k1_pay5 (F := Ideal) v0 v4 v10 v16 v23 v29 v32 (ix2 r j)
      = ∑ x : Fin 256, act (v16 (ix2 r x)) (v0 (ix2 0 x)) (v4 (ix2 0 x)) (v10 (ix2 0 x)) (v23 (ix2 0 x)) * v29 (ix2 x j)
        + v32 (ix2 0 j) := by
  unfold k1_pay5 act
  rw [← word_inv_count, ← word_eps]
  pointwise

theorem layer2_narrow (v0 v4 v10 : Vec Ideal S1x256 .f32) (v16 : Vec Ideal S8192x256 .bf16) (v23 : Vec Ideal S1x256 .f32)
    (v29 : Vec Ideal S256x256 .f32) (v32 : Vec Ideal S1x256 .f32) (r : Fin 8192) (j : Fin 256) :
    k1_pay6 (F := Ideal) v0 v4 v10 v16 v23 v29 v32 (ix2 r j) = k1_pay5 (F := Ideal) v0 v4 v10 v16 v23 v29 v32 (ix2 r j) := by
  unfold k1_pay6
  pointwise

theorem sum_step1 (v35 : FVec Ideal S8192x256 .f32) (v41 : Vec Ideal S1x256 .f32) (j : Fin 256) :
    k1_pay3 (F := Ideal) v35 v41 (ix2 0 j) = v41 (ix2 0 j) + ∑ x : Fin 8192, v35 (ix2 x j) := by
  unfold k1_pay3
  pointwise

theorem square_step1 (v35 : FVec Ideal S8192x256 .f32) (v47 : Vec Ideal S1x256 .f32) (j : Fin 256) :
    k1_pay4 (F := Ideal) v35 v47 (ix2 0 j) = v47 (ix2 0 j) + ∑ x : Fin 8192, v35 (ix2 x j) * v35 (ix2 x j) := by
  unfold k1_pay4
  pointwise

theorem zero_s1 (j : Fin 256) : k1_pay1 (F := Ideal) (ix2 0 j) = 0 := by
  unfold k1_pay1
  pointwise

theorem zero_q1 (j : Fin 256) : k1_pay2 (F := Ideal) (ix2 0 j) = 0 := by
  unfold k1_pay2
  pointwise

variable (V : (c : Dev nD) → (b : Ref sig .tc) → Buf (Elt Ideal) ((c : Thread nD τ).loc b)) (c : Dev nD)

/-- The block of the second layer's values written at a point. -/
abbrev zAt1 (t : Fin cfg1.N) : FVec Ideal S8192x256 .f32 :=
  k1_pay5 (F := Ideal) (iblk1 V c 1 t) (iblk1 V c 2 t) (iblk1 V c 3 t) (iblk1 V c 0 t) (iblk1 V c 4 t) (iblk1 V c 5 t) (iblk1 V c 6 t)

theorem outs1_z (t : Fin cfg1.N) (r : Fin 8192) (j : Fin 256) :
    (outsAt1 V c t.val t.isLt).1 (ix2 r j) = zAt1 V c t (ix2 r j) := by
  by_cases h : t.val % 4 = 0
  · rw [outsAt1_A V c t h]
    frame_out
    rw [layer2_narrow]
  · rw [outsAt1_B V c t h]
    frame_out
    rw [layer2_narrow]

/-- The running row of sums after the last point. -/
theorem outs1_s (t : Fin cfg1.N) (ht : t.val + 1 = cfg1.N) (j : Fin 256) :
    (outsAt1 V c t.val t.isLt).2.1 (ix2 0 j) = ∑ p : Fin cfg1.N, ∑ x : Fin 8192, zAt1 V c p (ix2 x j) := by
  rw [Pipeline.eq_sum_fin_of_reset_step_apply_last (fun n h (j : Fin 256) => (outsAt1 V c n h).2.1 (ix2 0 j)) 4
    (fun _ => (0 : EReal)) (fun p j => ∑ x : Fin 8192, zAt1 V c p (ix2 x j))
    (fun t h j => by
      rw [outsAt1_A V c t h]
      frame_out
      rw [sum_step1, zero_s1])
    (fun t h j => by
      rw [outsAt1_B V c t h]
      frame_out
      rw [sum_step1])
    (le_of_eq N_1) t ht j, zero_add]

/-- The running row of squares after the last point. -/
theorem outs1_q (t : Fin cfg1.N) (ht : t.val + 1 = cfg1.N) (j : Fin 256) :
    (outsAt1 V c t.val t.isLt).2.2 (ix2 0 j)
      = ∑ p : Fin cfg1.N, ∑ x : Fin 8192, zAt1 V c p (ix2 x j) * zAt1 V c p (ix2 x j) := by
  rw [Pipeline.eq_sum_fin_of_reset_step_apply_last (fun n h (j : Fin 256) => (outsAt1 V c n h).2.2 (ix2 0 j)) 4
    (fun _ => (0 : EReal)) (fun p j => ∑ x : Fin 8192, zAt1 V c p (ix2 x j) * zAt1 V c p (ix2 x j))
    (fun t h j => by
      rw [outsAt1_A V c t h]
      frame_out
      rw [square_step1, zero_q1])
    (fun t h j => by
      rw [outsAt1_B V c t h]
      frame_out
      rw [square_step1])
    (le_of_eq N_1) t ht j, zero_add]

theorem at1_0 : ∀ t : Fin cfg1.N, win1_0.index t = ![t.val, 0] := (by decide +kernel : ∀ t : Fin grid1.N, _)
theorem at1_1 : ∀ t : Fin cfg1.N, win1_1.index t = ![0, 0] := (by decide +kernel : ∀ t : Fin grid1.N, _)
theorem at1_2 : ∀ t : Fin cfg1.N, win1_2.index t = ![0, 0] := (by decide +kernel : ∀ t : Fin grid1.N, _)
theorem at1_3 : ∀ t : Fin cfg1.N, win1_3.index t = ![0, 0] := (by decide +kernel : ∀ t : Fin grid1.N, _)
theorem at1_4 : ∀ t : Fin cfg1.N, win1_4.index t = ![0, 0] := (by decide +kernel : ∀ t : Fin grid1.N, _)
theorem at1_5 : ∀ t : Fin cfg1.N, win1_5.index t = ![0, 0] := (by decide +kernel : ∀ t : Fin grid1.N, _)
theorem at1_6 : ∀ t : Fin cfg1.N, win1_6.index t = ![0, 0] := (by decide +kernel : ∀ t : Fin grid1.N, _)
theorem at1_7 : ∀ t : Fin cfg1.N, win1_7.index t = ![t.val, 0] := (by decide +kernel : ∀ t : Fin grid1.N, _)

/-- Row `r` of the block of point `t`, among all rows. -/
def rowAt1 (t : Fin cfg1.N) (r : Fin 8192) : Fin 32768 :=
  ⟨t.val * 8192 + r.val, by have h : t.val < 4 := lt_of_lt_of_eq t.isLt N_1; have := r.isLt; omega⟩

theorem blk1_0 (t : Fin cfg1.N) (r : Fin 8192) (k : Fin 256) :
    iblk1 V c 0 t (ix2 r k) = V c main_v10_0 (ix2 (rowAt1 t r) k) := by
  blk_simp [iblk1]
  blk_ext [at1_0 t, rowAt1]

theorem blk1_1 (t : Fin cfg1.N) (k : Fin 256) : iblk1 V c 1 t (ix2 0 k) = V c main_v10_1 (ix2 0 k) := by
  blk_simp [iblk1]
  blk_ext [at1_1 t]

theorem blk1_2 (t : Fin cfg1.N) (k : Fin 256) : iblk1 V c 2 t (ix2 0 k) = V c main_v10_2 (ix2 0 k) := by
  blk_simp [iblk1]
  blk_ext [at1_2 t]

theorem blk1_3 (t : Fin cfg1.N) (k : Fin 256) : iblk1 V c 3 t (ix2 0 k) = V c main_v5 (ix2 0 k) := by
  blk_simp [iblk1]
  blk_ext [at1_3 t]

theorem blk1_4 (t : Fin cfg1.N) (k : Fin 256) : iblk1 V c 4 t (ix2 0 k) = V c main_v6 (ix2 0 k) := by
  blk_simp [iblk1]
  blk_ext [at1_4 t]

theorem blk1_5 (t : Fin cfg1.N) (s : Fin 256) (k : Fin 256) : iblk1 V c 5 t (ix2 s k) = V c main_v3 (ix2 s k) := by
  blk_simp [iblk1]
  blk_ext [at1_5 t]

theorem blk1_6 (t : Fin cfg1.N) (k : Fin 256) : iblk1 V c 6 t (ix2 0 k) = V c main_v7 (ix2 0 k) := by
  blk_simp [iblk1]
  blk_ext [at1_6 t]

/-- The second layer's values, over all rows: from the first layer's values, their sums, the scales and shifts. -/
def zArr1 (z : S32768x256.Idx → EReal) (s q g b : S1x256.Idx → EReal) (w : S256x256.Idx → EReal) (o : S1x256.Idx → EReal)
    (i : S32768x256.Idx) : EReal :=
  ∑ x : Fin 256, act (z (ix2 (i 0) x)) (s (ix2 0 x)) (q (ix2 0 x)) (g (ix2 0 x)) (b (ix2 0 x)) * w (ix2 x (i 1)) + o (ix2 0 (i 1))

/-- The second layer's values at the arrays the kernel is entered with. -/
abbrev zV1 : S32768x256.Idx → EReal :=
  zArr1 (V c main_v10_0) (V c main_v10_1) (V c main_v10_2) (V c main_v5) (V c main_v6) (V c main_v3) (V c main_v7)

theorem zV1_rowAt (t : Fin cfg1.N) (r : Fin 8192) (j : Fin 256) :
    zV1 V c (ix2 (rowAt1 t r) j) = zAt1 V c t (ix2 r j) := by
  refine Eq.trans ?_ (layer2_apply _ _ _ _ _ _ _ r j).symm
  show ∑ x : Fin 256, act (V c main_v10_0 (ix2 (rowAt1 t r) x)) (V c main_v10_1 (ix2 0 x)) (V c main_v10_2 (ix2 0 x))
      (V c main_v5 (ix2 0 x)) (V c main_v6 (ix2 0 x)) * V c main_v3 (ix2 x j) + V c main_v7 (ix2 0 j) = _
  rw [blk1_6]
  refine congrArg (· + V c main_v7 (ix2 0 j)) (Finset.sum_congr rfl fun x _ => ?_)
  rw [blk1_0, blk1_1, blk1_2, blk1_3, blk1_4, blk1_5]

theorem arr1_z : (dat1 V c).arrAt 7 cfg1.N = zV1 V c := by
  refine Dat.arrAt_eq_of_covers _ 7 _ (by decide +kernel) fun t hf y => ?_
  blk_simp
  rw [after1_7]
  idx_vars y
  have e : ((win1_7.blk t).view.emb (ix2 y0 y1)) = ix2 (rowAt1 t y0) y1 := by
    blk_ext [at1_7 t, rowAt1]
  rw [outs1_z]
  refine (zV1_rowAt V c t y0 y1).symm.trans ?_
  exact congrArg (zV1 V c) e.symm

/-- The last point. -/
def last1 : Fin cfg1.N := ⟨3, lt_of_lt_of_eq (by decide : 3 < 4) N_1.symm⟩

/-- A sum over points and rows of a block, as a sum over all rows. -/
theorem sum_rows1 (f : Fin 32768 → EReal) :
    ∑ p : Fin cfg1.N, ∑ x : Fin 8192, f (rowAt1 p x) = ∑ R : Fin 32768, f R := by
  have h := Fin.sum_mul_add_fin 4 8192 f (by decide)
  rw [← h]
  exact Fintype.sum_equiv (finCongr N_1) _ _ fun p => rfl

theorem arr1_s (j : Fin 256) : (dat1 V c).arrAt 8 cfg1.N (ix2 0 j) = ∑ R : Fin 32768, zV1 V c (ix2 R j) := by
  refine (Dat.arrAt_emb_eq_after_last (dat1 V c) 8 last1 (by decide +kernel) (ix2 0 j)).trans ?_
  blk_simp
  rw [after1_8]
  refine (outs1_s V c last1 N_1.symm j).trans ?_
  rw [← sum_rows1]
  refine Finset.sum_congr rfl fun p _ => Finset.sum_congr rfl fun x _ => (zV1_rowAt V c p x j).symm

theorem arr1_q (j : Fin 256) :
    (dat1 V c).arrAt 9 cfg1.N (ix2 0 j) = ∑ R : Fin 32768, zV1 V c (ix2 R j) * zV1 V c (ix2 R j) := by
  refine (Dat.arrAt_emb_eq_after_last (dat1 V c) 9 last1 (by decide +kernel) (ix2 0 j)).trans ?_
  blk_simp
  rw [after1_9]
  refine (outs1_q V c last1 N_1.symm j).trans ?_
  rw [← sum_rows1 fun R => zV1 V c (ix2 R j) * zV1 V c (ix2 R j)]
  refine Finset.sum_congr rfl fun p _ => Finset.sum_congr rfl fun x _ => ?_
  rw [zV1_rowAt]

end Cert.Proof

end
end
-- ==== Proof.KArr2.lean ====
module

public import proofs.«01_k».proof.Proof.Gen.KernelIdeal.Frame
public import proofs.«01_k».proof.Proof.Norm
public import Idealize.ShloMosaic.Lib.Pipeline.ValueKit.Acc
public import Idealize.ShloMosaic.Lib.Pipeline.ValueKit.Geometry
public import Idealize.ShloMosaic.Lib.Pointwise
public import Idealize.ShloMosaic.Lib.Tactic

/-! # The third kernel's array: the second layer's values normalised -/

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat)

theorem out_apply (v0 v4 v10 : Vec Ideal S1x256 .f32) (v16 : Vec Ideal S8192x256 .bf16) (v23 : Vec Ideal S1x256 .f32)
    (r : Fin 8192) (j : Fin 256) :
    k2_pay1 (F := Ideal) v0 v4 v10 v16 v23 (ix2 r j)
      = act (v16 (ix2 r j)) (v0 (ix2 0 j)) (v4 (ix2 0 j)) (v10 (ix2 0 j)) (v23 (ix2 0 j)) := by
  unfold k2_pay1 act
  rw [← word_inv_count, ← word_eps]
  pointwise

variable (V : (c : Dev nD) → (b : Ref sig .tc) → Buf (Elt Ideal) ((c : Thread nD τ).loc b)) (c : Dev nD)

theorem at2_0 : ∀ t : Fin cfg2.N, win2_0.index t = ![t.val, 0] := (by decide +kernel : ∀ t : Fin grid2.N, _)
theorem at2_1 : ∀ t : Fin cfg2.N, win2_1.index t = ![0, 0] := (by decide +kernel : ∀ t : Fin grid2.N, _)
theorem at2_2 : ∀ t : Fin cfg2.N, win2_2.index t = ![0, 0] := (by decide +kernel : ∀ t : Fin grid2.N, _)
theorem at2_3 : ∀ t : Fin cfg2.N, win2_3.index t = ![0, 0] := (by decide +kernel : ∀ t : Fin grid2.N, _)
theorem at2_4 : ∀ t : Fin cfg2.N, win2_4.index t = ![0, 0] := (by decide +kernel : ∀ t : Fin grid2.N, _)
theorem at2_5 : ∀ t : Fin cfg2.N, win2_5.index t = ![t.val, 0] := (by decide +kernel : ∀ t : Fin grid2.N, _)

/-- Row `r` of the block of point `t`, among all rows. -/
def rowAt2 (t : Fin cfg2.N) (r : Fin 8192) : Fin 32768 :=
  ⟨t.val * 8192 + r.val, by have h : t.val < 4 := lt_of_lt_of_eq t.isLt N_2; have := r.isLt; omega⟩

theorem blk2_0 (t : Fin cfg2.N) (r : Fin 8192) (k : Fin 256) :
    iblk2 V c 0 t (ix2 r k) = V c main_v11_0 (ix2 (rowAt2 t r) k) := by
  blk_simp [iblk2]
  blk_ext [at2_0 t, rowAt2]

theorem blk2_1 (t : Fin cfg2.N) (k : Fin 256) : iblk2 V c 1 t (ix2 0 k) = V c main_v11_1 (ix2 0 k) := by
  blk_simp [iblk2]
  blk_ext [at2_1 t]

theorem blk2_2 (t : Fin cfg2.N) (k : Fin 256) : iblk2 V c 2 t (ix2 0 k) = V c main_v11_2 (ix2 0 k) := by
  blk_simp [iblk2]
  blk_ext [at2_2 t]

theorem blk2_3 (t : Fin cfg2.N) (k : Fin 256) : iblk2 V c 3 t (ix2 0 k) = V c main_v8 (ix2 0 k) := by
  blk_simp [iblk2]
  blk_ext [at2_3 t]

theorem blk2_4 (t : Fin cfg2.N) (k : Fin 256) : iblk2 V c 4 t (ix2 0 k) = V c main_v9 (ix2 0 k) := by
  blk_simp [iblk2]
  blk_ext [at2_4 t]

/-- The result over all rows: from the second layer's values, their sums, the scales and shifts. -/
def outArr (z : S32768x256.Idx → EReal) (s q g b : S1x256.Idx → EReal) (i : S32768x256.Idx) : EReal :=
  act (z (ix2 (i 0) (i 1))) (s (ix2 0 (i 1))) (q (ix2 0 (i 1))) (g (ix2 0 (i 1))) (b (ix2 0 (i 1)))

theorem arr2 : (dat2 V c).arrAt 5 cfg2.N
    = outArr (V c main_v11_0) (V c main_v11_1) (V c main_v11_2) (V c main_v8) (V c main_v9) := by
  refine Dat.arrAt_eq_of_covers _ 5 _ (by decide +kernel) fun t hf y => ?_
  blk_simp
  rw [after2_5]
  idx_vars y
  have e : ((win2_5.blk t).view.emb (ix2 y0 y1)) = ix2 (rowAt2 t y0) y1 := by
    blk_ext [at2_5 t, rowAt2]
  frame_out
  rw [out_apply, blk2_0, blk2_1, blk2_2, blk2_3, blk2_4]
  exact congrArg (outArr (V c main_v11_0) (V c main_v11_1) (V c main_v11_2) (V c main_v8) (V c main_v9)) e.symm

end Cert.Proof

end
end
-- ==== Proof.KChain.lean ====
module

public import proofs.«01_k».proof.Proof.KArr0
public import proofs.«01_k».proof.Proof.KArr1
public import proofs.«01_k».proof.Proof.KArr2
public import proofs.«01_k».proof.Proof.Model
public import Idealize.ShloMosaic.Lib.Claim

/-! # The kernel program's result array, from its arguments -/

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat)

variable (m : (ℓ : Loc nD τ sig) → Buf (Elt Ideal) ℓ) (ρ : Dev nD → PrngReg) (c : Dev nD)

/-- The kernel's arguments, at coordinates. -/
def args : In where
  x1 b n k := m ((c : Thread nD τ).loc main_arg0) (ix3 b n k)
  x2 b s k := m ((c : Thread nD τ).loc main_arg1) (ix3 b s k)
  p1 b n x := m ((c : Thread nD τ).loc main_arg2) (ix3 b n x)
  p2 b s x := m ((c : Thread nD τ).loc main_arg3) (ix3 b s x)
  rw k := m ((c : Thread nD τ).loc main_arg4) (ix1 k)
  rb := m ((c : Thread nD τ).loc main_arg5) (ix1 0)
  w1 j x := m ((c : Thread nD τ).loc main_arg6) (ix2 j x)
  b1 j := m ((c : Thread nD τ).loc main_arg7) (ix1 j)
  g1 j := m ((c : Thread nD τ).loc main_arg8) (ix1 j)
  t1 j := m ((c : Thread nD τ).loc main_arg9) (ix1 j)
  w2 j x := m ((c : Thread nD τ).loc main_arg10) (ix2 j x)
  b2 j := m ((c : Thread nD τ).loc main_arg11) (ix1 j)
  g2 j := m ((c : Thread nD τ).loc main_arg12) (ix1 j)
  t2 j := m ((c : Thread nD τ).loc main_arg13) (ix1 j)

/-! ### The arrays the first kernel is entered with -/

theorem in_arg0 (b : Fin 8) (n : Fin 4096) (k : Fin 3) : V1 m ρ c main_arg0 (ix3 b n k) = (args m c).x1 b n k := by
  show W1 m ρ c (Proc.devRef .tc main_arg0) (ix3 b n k) = _
  rw [W1_args m ρ c main_arg0 (by decide)]
  rfl

theorem in_arg2 (b : Fin 8) (n : Fin 4096) (k : Fin 256) : V1 m ρ c main_arg2 (ix3 b n k) = (args m c).p1 b n k := by
  show W1 m ρ c (Proc.devRef .tc main_arg2) (ix3 b n k) = _
  rw [W1_args m ρ c main_arg2 (by decide)]
  rfl

theorem in_arg3 (b : Fin 8) (s : Fin 1024) (k : Fin 256) : V1 m ρ c main_arg3 (ix3 b s k) = (args m c).p2 b s k := by
  show W1 m ρ c (Proc.devRef .tc main_arg3) (ix3 b s k) = _
  rw [W1_args m ρ c main_arg3 (by decide)]
  rfl

theorem in_v0 (b : Fin 8) (k : Fin 3) (s : Fin 1024) : V1 m ρ c main_v0 (ix3 b k s) = (args m c).x2 b s k := by
  show StableHlo.after hostOps0 (W0 m ρ c) (Proc.devRef .tc main_v0) (ix3 b k s) = _
  after_results
  pointwise
  rfl

theorem in_v1 (k : Fin 4) : V1 m ρ c main_v1 (ix1 (Fin.castLE (by decide) k)) = (args m c).rw k := by
  show StableHlo.after hostOps0 (W0 m ρ c) (Proc.devRef .tc main_v1) (ix1 _) = _
  after_results
  pointwise
  have h : (Fin.castLE (by decide : 4 ≤ 5) k : Nat) < 4 := k.isLt
  rw [dif_pos h]
  rfl

theorem in_v1_last : V1 m ρ c main_v1 (ix1 4) = (args m c).rb := by
  show StableHlo.after hostOps0 (W0 m ρ c) (Proc.devRef .tc main_v1) (ix1 4) = _
  after_results
  pointwise
  rfl

theorem in_v2 (x : Fin 512) (j : Fin 256) : V1 m ρ c main_v2 (ix2 x j) = (args m c).w1 j x := by
  show StableHlo.after hostOps0 (W0 m ρ c) (Proc.devRef .tc main_v2) (ix2 x j) = _
  after_results
  pointwise
  rfl

theorem in_v3 (x : Fin 256) (j : Fin 256) : V1 m ρ c main_v3 (ix2 x j) = (args m c).w2 j x := by
  show StableHlo.after hostOps0 (W0 m ρ c) (Proc.devRef .tc main_v3) (ix2 x j) = _
  after_results
  pointwise
  rfl

theorem in_v4 (j : Fin 256) : V1 m ρ c main_v4 (ix2 0 j) = (args m c).b1 j := by
  show StableHlo.after hostOps0 (W0 m ρ c) (Proc.devRef .tc main_v4) (ix2 0 j) = _
  after_results
  pointwise
  rfl

theorem in_v5 (j : Fin 256) : V1 m ρ c main_v5 (ix2 0 j) = (args m c).g1 j := by
  show StableHlo.after hostOps0 (W0 m ρ c) (Proc.devRef .tc main_v5) (ix2 0 j) = _
  after_results
  pointwise
  rfl

theorem in_v6 (j : Fin 256) : V1 m ρ c main_v6 (ix2 0 j) = (args m c).t1 j := by
  show StableHlo.after hostOps0 (W0 m ρ c) (Proc.devRef .tc main_v6) (ix2 0 j) = _
  after_results
  pointwise
  rfl

theorem in_v7 (j : Fin 256) : V1 m ρ c main_v7 (ix2 0 j) = (args m c).b2 j := by
  show StableHlo.after hostOps0 (W0 m ρ c) (Proc.devRef .tc main_v7) (ix2 0 j) = _
  after_results
  pointwise
  rfl

theorem in_v8 (j : Fin 256) : V1 m ρ c main_v8 (ix2 0 j) = (args m c).g2 j := by
  show StableHlo.after hostOps0 (W0 m ρ c) (Proc.devRef .tc main_v8) (ix2 0 j) = _
  after_results
  pointwise
  rfl

theorem in_v9 (j : Fin 256) : V1 m ρ c main_v9 (ix2 0 j) = (args m c).t2 j := by
  show StableHlo.after hostOps0 (W0 m ρ c) (Proc.devRef .tc main_v9) (ix2 0 j) = _
  after_results
  pointwise
  rfl

/-! ### The first layer -/

/-- The distances of a block's rows. -/
theorem pay4_apply (v0 : Vec Ideal S1x2048x3 .f32) (v2 : Vec Ideal S1x3x1024 .f32) (r : Fin 2048) (s : Fin 1024) :
    k0_pay4 (F := Ideal) v0 v2 (ix2 r s) = ((-2 : ℝ) : EReal) * ∑ k : Fin 3, v0 (ix3 0 r k) * v2 (ix3 0 k s)
      + ∑ k : Fin 3, v0 (ix3 0 r k) * v0 (ix3 0 r k) + ∑ k : Fin 3, v2 (ix3 0 k s) * v2 (ix3 0 k s) := by
  rw [← word_neg_two]
  unfold k0_pay4 k0_pay2 k0_pay3
  pointwise

theorem pay5_apply (v0 : Vec Ideal S1x2048x3 .f32) (a b d : EReal) (r : Fin 2048) :
    k0_pay5 (F := Ideal) v0 a b d (ix2 r 0) = v0 (ix3 0 r 0) * a + v0 (ix3 0 r 1) * b + v0 (ix3 0 r 2) * d := by
  unfold k0_pay5 k0_pay2
  pointwise

theorem pay8_apply (v2 : Vec Ideal S1x3x1024 .f32) (a b d : EReal) (s : Fin 1024) :
    k0_pay8 (F := Ideal) (k0_pay3 v2) (k0_pay6 v2 a) (k0_pay7 v2 b) d (ix2 0 s)
      = v2 (ix3 0 0 s) * a + v2 (ix3 0 1 s) * b + v2 (ix3 0 2 s) * d := by
  unfold k0_pay8 k0_pay6 k0_pay7 k0_pay3
  pointwise

theorem pay18_apply (v137 : FVec Ideal S2048x1024 .f32) (v138 : Vec Ideal S1x1024x256 .f32) (v141 : Vec Ideal S1x2048x256 .f32)
    (v143 v146 : Vec Ideal S256x256 .f32) (v150 : Vec Ideal S1x256 .f32) (r : Fin 2048) (j : Fin 256) :
    k0_pay18 (F := Ideal) v137 v138 v141 v143 v146 v150 (ix2 r j)
      = ∑ x : Fin 256, v141 (ix3 0 r x) * v143 (ix2 x j)
        + ∑ x : Fin 256, (∑ s : Fin 1024, v137 (ix2 r s) * v138 (ix3 0 s x)) * v146 (ix2 x j) + v150 (ix2 0 j) := by
  unfold k0_pay18
  pointwise

/-- Row `n` of batch entry `b`, among all rows. -/
def row (b : Fin 8) (n : Fin 4096) : Fin 32768 := ⟨b.val * 4096 + n.val, by have := b.isLt; have := n.isLt; omega⟩

theorem bOf_tOf (b : Fin 8) (n : Fin 4096) : bOf (tOf (row b n)) = b := by
  apply Fin.ext
  show (b.val * 4096 + n.val) / 2048 / 2 = b.val
  have := n.isLt
  omega

theorem nOf_rOf (b : Fin 8) (n : Fin 4096) : nOf (tOf (row b n)) (rOf (row b n)) = n := by
  apply Fin.ext
  show (b.val * 4096 + n.val) / 2048 % 2 * 2048 + (b.val * 4096 + n.val) % 2048 = n.val
  have := n.isLt
  omega

/-- The weight of a column for a row, from a block. -/
def wtBlk (x0 : Vec Ideal S5 .f32) (x1 : Vec Ideal S1x2048x3 .f32) (x2 : Vec Ideal S1x3x1024 .f32) (r : Fin 2048)
    (s : Fin 1024) : EReal :=
  weight (x0 (ix1 0)) (x0 (ix1 4)) (k0_pay4 (F := Ideal) x1 x2 (ix2 r s))
    (x1 (ix3 0 r 0) * x0 (ix1 1) + x1 (ix3 0 r 1) * x0 (ix1 2) + x1 (ix3 0 r 2) * x0 (ix1 3))
    (x2 (ix3 0 0 s) * x0 (ix1 1) + x2 (ix3 0 1 s) * x0 (ix1 2) + x2 (ix3 0 2 s) * x0 (ix1 3))

/-- The weight row: the three nearest columns' weights, and zero elsewhere. -/
theorem marks_apply (x0 : Vec Ideal S5 .f32) (x1 : Vec Ideal S1x2048x3 .f32) (x2 : Vec Ideal S1x3x1024 .f32) (r : Fin 2048)
    (a : Fin 3 → Fin 1024) (hN : Nearest (fun s => k0_pay4 (F := Ideal) x1 x2 (ix2 r s)) a)
    (hd : ∀ s, k0_pay4 (F := Ideal) x1 x2 (ix2 r s) < ⊤) (s : Fin 1024) :
    marks x0 x1 x2 (ix2 r s) = if s = a 2 then wtBlk x0 x1 x2 r (a 2) else if s = a 1 then wtBlk x0 x1 x2 r (a 1)
      else if s = a 0 then wtBlk x0 x1 x2 r (a 0) else 0 := by
  have h := pay17_apply (k0_pay3 x2) (x0 (ix1 ⟨0, by decide⟩)) (x0 (ix1 ⟨4, by decide⟩)) (x0 (ix1 ⟨3, by decide⟩))
    (k0_pay5 (F := Ideal) x1 (x0 (ix1 ⟨1, by decide⟩)) (x0 (ix1 ⟨2, by decide⟩)) (x0 (ix1 ⟨3, by decide⟩)))
    (k0_pay6 x2 (x0 (ix1 ⟨1, by decide⟩))) (k0_pay7 x2 (x0 (ix1 ⟨2, by decide⟩))) hN hd s
  dsimp only at h
  rw [pay5_apply, pay8_apply, pay8_apply, pay8_apply] at h
  exact h

/-! The first kernel's blocks at a row of the whole cloud. -/

theorem row_x1 (b : Fin 8) (n : Fin 4096) (k : Fin 3) :
    iblk0 (V1 m ρ) c 1 (tOf (row b n)) (ix3 0 (rOf (row b n)) k) = (args m c).x1 b n k := by
  rw [blk0_1, bOf_tOf, nOf_rOf]
  exact in_arg0 m ρ c b n k

theorem row_x2 (b : Fin 8) (n : Fin 4096) (k : Fin 3) (s : Fin 1024) :
    iblk0 (V1 m ρ) c 2 (tOf (row b n)) (ix3 0 k s) = (args m c).x2 b s k := by
  rw [blk0_2, bOf_tOf]
  exact in_v0 m ρ c b k s

theorem row_rw (b : Fin 8) (n : Fin 4096) (k : Fin 4) :
    iblk0 (V1 m ρ) c 0 (tOf (row b n)) (ix1 (Fin.castLE (by decide) k)) = (args m c).rw k := by
  rw [blk0_0]
  exact in_v1 m ρ c k

theorem row_rb (b : Fin 8) (n : Fin 4096) : iblk0 (V1 m ρ) c 0 (tOf (row b n)) (ix1 4) = (args m c).rb := by
  rw [blk0_0]
  exact in_v1_last m ρ c

theorem row_p1 (b : Fin 8) (n : Fin 4096) (x : Fin 256) :
    iblk0 (V1 m ρ) c 3 (tOf (row b n)) (ix3 0 (rOf (row b n)) x) = (args m c).p1 b n x := by
  rw [blk0_3, bOf_tOf, nOf_rOf]
  exact in_arg2 m ρ c b n x

theorem row_p2 (b : Fin 8) (n : Fin 4096) (s : Fin 1024) (x : Fin 256) :
    iblk0 (V1 m ρ) c 4 (tOf (row b n)) (ix3 0 s x) = (args m c).p2 b s x := by
  rw [blk0_4, bOf_tOf]
  exact in_arg3 m ρ c b s x

theorem row_w1 (b : Fin 8) (n : Fin 4096) (x : Fin 512) (j : Fin 256) :
    iblk0 (V1 m ρ) c 5 (tOf (row b n)) (ix2 x j) = (args m c).w1 j x := by
  rw [blk0_5]
  exact in_v2 m ρ c x j

theorem row_b1 (b : Fin 8) (n : Fin 4096) (j : Fin 256) : iblk0 (V1 m ρ) c 6 (tOf (row b n)) (ix2 0 j) = (args m c).b1 j := by
  rw [blk0_6]
  exact in_v4 m ρ c j

/-- The distances of a row, in its block. -/
theorem dist_row (b : Fin 8) (n : Fin 4096) (s : Fin 1024) :
    k0_pay4 (F := Ideal) (iblk0 (V1 m ρ) c 1 (tOf (row b n))) (iblk0 (V1 m ρ) c 2 (tOf (row b n))) (ix2 (rOf (row b n)) s)
      = (args m c).dist b n s := by
  rw [pay4_apply]
  unfold In.dist
  have h1 := fun k => row_x1 m ρ c b n k
  have h2 := fun k => row_x2 m ρ c b n k s
  generalize iblk0 (V1 m ρ) c 1 (tOf (row b n)) = X1 at *
  generalize iblk0 (V1 m ρ) c 2 (tOf (row b n)) = X2 at *
  simp only [h1, h2]

theorem wt_row (b : Fin 8) (n : Fin 4096) (s : Fin 1024) :
    wtBlk (iblk0 (V1 m ρ) c 0 (tOf (row b n))) (iblk0 (V1 m ρ) c 1 (tOf (row b n))) (iblk0 (V1 m ρ) c 2 (tOf (row b n)))
      (rOf (row b n)) s = (args m c).wt b n s := by
  have e0 := row_rw m ρ c b n 0
  have e1 := row_rw m ρ c b n 1
  have e2 := row_rw m ρ c b n 2
  have e3 := row_rw m ρ c b n 3
  have e4 := row_rb m ρ c b n
  unfold wtBlk In.wt In.proj
  rw [dist_row, ← e0, ← e1, ← e2, ← e3, ← e4]
  rw [← row_x1 m ρ c b n 0, ← row_x1 m ρ c b n 1, ← row_x1 m ρ c b n 2, ← row_x2 m ρ c b n 0 s, ← row_x2 m ρ c b n 1 s,
    ← row_x2 m ρ c b n 2 s]
  rfl

/-- The first layer's value at a row. -/
theorem z1blk_apply (x0 : Vec Ideal S5 .f32) (x1 : Vec Ideal S1x2048x3 .f32) (x2 : Vec Ideal S1x3x1024 .f32)
    (x3 : Vec Ideal S1x2048x256 .f32) (x4 : Vec Ideal S1x1024x256 .f32) (x5 : Vec Ideal S512x256 .f32)
    (x6 : Vec Ideal S1x256 .f32) (r : Fin 2048) (a : Fin 3 → Fin 1024)
    (hN : Nearest (fun s => k0_pay4 (F := Ideal) x1 x2 (ix2 r s)) a)
    (hd : ∀ s, k0_pay4 (F := Ideal) x1 x2 (ix2 r s) < ⊤) (j : Fin 256) :
    z1blk x0 x1 x2 x3 x4 x5 x6 (ix2 r j)
      = ∑ x : Fin 256, x3 (ix3 0 r x) * x5 (ix2 (Fin.castLE (by decide) x) j)
        + ∑ x : Fin 256, (∑ k, wtBlk x0 x1 x2 r (a k) * x4 (ix3 0 (a k) x)) * x5 (ix2 (Fin.natAdd 256 x) j)
        + x6 (ix2 0 j) := by
  unfold z1blk
  rw [pay18_apply]
  have h1 : ∀ x : Fin 256, ∑ s : Fin 1024, marks x0 x1 x2 (ix2 r s) * x4 (ix3 0 s x)
      = ∑ k, wtBlk x0 x1 x2 r (a k) * x4 (ix3 0 (a k) x) := fun x => by
    simp only [marks_apply x0 x1 x2 r a hN hd]
    exact sum_three hN.inj (fun k => wtBlk x0 x1 x2 r (a k)) (fun s => x4 (ix3 0 s x))
  simp only [h1]
  refine congrArg (· + x6 (ix2 0 j)) (congrArg₂ (· + ·) (Finset.sum_congr rfl fun x _ => congrArg (_ * ·) ?_)
    (Finset.sum_congr rfl fun x _ => congrArg (_ * ·) ?_))
  · refine congrArg x5 (funext fun k => Fin.ext ?_)
    match k with
    | ⟨0, _⟩ => exact (by omega : 0 + 1 * x.val = x.val)
    | ⟨1, _⟩ => exact (by omega : 0 + 1 * j.val = j.val)
  · refine congrArg x5 (funext fun k => Fin.ext ?_)
    match k with
    | ⟨0, _⟩ => exact (by omega : 256 + 1 * x.val = 256 + x.val)
    | ⟨1, _⟩ => exact (by omega : 0 + 1 * j.val = j.val)

theorem layer1_row (a : Fin 8 → Fin 4096 → Fin 3 → Fin 1024) (ha : ∀ b n, Nearest ((args m c).dist b n) (a b n))
    (hd : ∀ b n s, (args m c).dist b n s < ⊤) (b : Fin 8) (n : Fin 4096) (j : Fin 256) :
    zArr0 (V1 m ρ) c (ix2 (row b n) j) = (args m c).layer1 a b n j := by
  have hN : Nearest (fun s => k0_pay4 (F := Ideal) (iblk0 (V1 m ρ) c 1 (tOf (row b n))) (iblk0 (V1 m ρ) c 2 (tOf (row b n)))
      (ix2 (rOf (row b n)) s)) (a b n) := by
    have e := funext fun s => dist_row m ρ c b n s
    rw [e]
    exact ha b n
  show zAt0 (V1 m ρ) c (tOf (row b n)) (ix2 (rOf (row b n)) j) = _
  refine (z1blk_apply _ _ _ _ _ _ _ (rOf (row b n)) (a b n) hN (fun s => by rw [dist_row]; exact hd b n s) j).trans ?_
  unfold In.layer1
  rw [row_b1]
  refine congrArg (· + (args m c).b1 j) (congrArg₂ (· + ·) (Finset.sum_congr rfl fun x _ => ?_)
    (Finset.sum_congr rfl fun x _ => ?_))
  · rw [row_p1, row_w1]
  · rw [row_w1]
    refine congrArg (· * _) (Finset.sum_congr rfl fun k _ => ?_)
    rw [wt_row, row_p2]

end Cert.Proof

end
end
-- ==== Proof.KOut.lean ====
module

public import proofs.«01_k».proof.Proof.KChain

/-! # The kernel program's result is the model's result -/

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat)

/-- A sum over all rows, entry by entry. -/
theorem sum_rows (f : Fin 32768 → EReal) : ∑ R : Fin 32768, f R = ∑ b : Fin 8, ∑ n : Fin 4096, f (row b n) :=
  (Fin.sum_mul_add_fin 8 4096 f (by decide)).symm

variable (m : (ℓ : Loc nD τ sig) → Buf (Elt Ideal) ℓ) (ρ : Dev nD → PrngReg) (c : Dev nD)
variable (a : Fin 8 → Fin 4096 → Fin 3 → Fin 1024) (ha : ∀ b n, Nearest ((args m c).dist b n) (a b n))
  (hd : ∀ b n s, (args m c).dist b n s < ⊤)

/-! ### The arrays the second kernel is entered with -/

include ha hd in
theorem in1_z (b : Fin 8) (n : Fin 4096) (j : Fin 256) :
    V2 m ρ c main_v10_0 (ix2 (row b n) j) = (args m c).layer1 a b n j := by
  have h : V2 m ρ c main_v10_0 = zArr0 (V1 m ρ) c := (W2_arr m ρ c 7).trans (arr0_z (V1 m ρ) c)
  rw [h]
  exact layer1_row m ρ c a ha hd b n j

include ha hd in
theorem in1_s (j : Fin 256) : V2 m ρ c main_v10_1 (ix2 0 j) = colSum ((args m c).layer1 a) j := by
  have h : V2 m ρ c main_v10_1 = (dat0 (V1 m ρ) c).arrAt 8 cfg0.N := W2_arr m ρ c 8
  rw [h]
  refine (arr0_s (V1 m ρ) c j).trans ((sum_rows _).trans ?_)
  exact Finset.sum_congr rfl fun b _ => Finset.sum_congr rfl fun n _ => layer1_row m ρ c a ha hd b n j

include ha hd in
theorem in1_q (j : Fin 256) : V2 m ρ c main_v10_2 (ix2 0 j) = colSquares ((args m c).layer1 a) j := by
  have h : V2 m ρ c main_v10_2 = (dat0 (V1 m ρ) c).arrAt 9 cfg0.N := W2_arr m ρ c 9
  rw [h]
  refine (arr0_q (V1 m ρ) c j).trans ((sum_rows _).trans ?_)
  exact Finset.sum_congr rfl fun b _ => Finset.sum_congr rfl fun n _ => by rw [layer1_row m ρ c a ha hd b n j]

theorem in1_g (j : Fin 256) : V2 m ρ c main_v5 (ix2 0 j) = (args m c).g1 j := by
  have h : V2 m ρ c main_v5 = V1 m ρ c main_v5 := W2_of m ρ c main_v5 (by decide)
  rw [h]
  exact in_v5 m ρ c j

theorem in1_t (j : Fin 256) : V2 m ρ c main_v6 (ix2 0 j) = (args m c).t1 j := by
  have h : V2 m ρ c main_v6 = V1 m ρ c main_v6 := W2_of m ρ c main_v6 (by decide)
  rw [h]
  exact in_v6 m ρ c j

theorem in1_w (x j : Fin 256) : V2 m ρ c main_v3 (ix2 x j) = (args m c).w2 j x := by
  have h : V2 m ρ c main_v3 = V1 m ρ c main_v3 := W2_of m ρ c main_v3 (by decide)
  rw [h]
  exact in_v3 m ρ c x j

theorem in1_b (j : Fin 256) : V2 m ρ c main_v7 (ix2 0 j) = (args m c).b2 j := by
  have h : V2 m ρ c main_v7 = V1 m ρ c main_v7 := W2_of m ρ c main_v7 (by decide)
  rw [h]
  exact in_v7 m ρ c j

include ha hd in
theorem layer2_row (b : Fin 8) (n : Fin 4096) (j : Fin 256) :
    zV1 (V2 m ρ) c (ix2 (row b n) j) = (args m c).layer2 ((args m c).layer1 a) b n j := by
  show ∑ x : Fin 256, act (V2 m ρ c main_v10_0 (ix2 (row b n) x)) (V2 m ρ c main_v10_1 (ix2 0 x)) (V2 m ρ c main_v10_2 (ix2 0 x))
      (V2 m ρ c main_v5 (ix2 0 x)) (V2 m ρ c main_v6 (ix2 0 x)) * V2 m ρ c main_v3 (ix2 x j) + V2 m ρ c main_v7 (ix2 0 j) = _
  unfold In.layer2 normed
  rw [in1_b]
  refine congrArg (· + (args m c).b2 j) (Finset.sum_congr rfl fun x _ => ?_)
  rw [in1_z m ρ c a ha hd, in1_s m ρ c a ha hd, in1_q m ρ c a ha hd, in1_g, in1_t, in1_w]

/-! ### The arrays the third kernel is entered with -/

include ha hd in
theorem in2_z (b : Fin 8) (n : Fin 4096) (j : Fin 256) :
    V3 m ρ c main_v11_0 (ix2 (row b n) j) = (args m c).layer2 ((args m c).layer1 a) b n j := by
  have h : V3 m ρ c main_v11_0 = zV1 (V2 m ρ) c := (W3_arr m ρ c 7).trans (arr1_z (V2 m ρ) c)
  rw [h]
  exact layer2_row m ρ c a ha hd b n j

include ha hd in
theorem in2_s (j : Fin 256) : V3 m ρ c main_v11_1 (ix2 0 j) = colSum ((args m c).layer2 ((args m c).layer1 a)) j := by
  have h : V3 m ρ c main_v11_1 = (dat1 (V2 m ρ) c).arrAt 8 cfg1.N := W3_arr m ρ c 8
  rw [h]
  refine (arr1_s (V2 m ρ) c j).trans ((sum_rows _).trans ?_)
  exact Finset.sum_congr rfl fun b _ => Finset.sum_congr rfl fun n _ => layer2_row m ρ c a ha hd b n j

include ha hd in
theorem in2_q (j : Fin 256) : V3 m ρ c main_v11_2 (ix2 0 j) = colSquares ((args m c).layer2 ((args m c).layer1 a)) j := by
  have h : V3 m ρ c main_v11_2 = (dat1 (V2 m ρ) c).arrAt 9 cfg1.N := W3_arr m ρ c 9
  rw [h]
  refine (arr1_q (V2 m ρ) c j).trans ((sum_rows _).trans ?_)
  exact Finset.sum_congr rfl fun b _ => Finset.sum_congr rfl fun n _ => by rw [layer2_row m ρ c a ha hd b n j]

theorem in2_g (j : Fin 256) : V3 m ρ c main_v8 (ix2 0 j) = (args m c).g2 j := by
  have h : V3 m ρ c main_v8 = V1 m ρ c main_v8 := (W3_of m ρ c main_v8 (by decide)).trans (W2_of m ρ c main_v8 (by decide))
  rw [h]
  exact in_v8 m ρ c j

theorem in2_t (j : Fin 256) : V3 m ρ c main_v9 (ix2 0 j) = (args m c).t2 j := by
  have h : V3 m ρ c main_v9 = V1 m ρ c main_v9 := (W3_of m ρ c main_v9 (by decide)).trans (W2_of m ρ c main_v9 (by decide))
  rw [h]
  exact in_v9 m ρ c j

include ha hd in
theorem out_row (b : Fin 8) (n : Fin 4096) (j : Fin 256) :
    V4 m ρ c main_v12 (ix2 (row b n) j) = (args m c).result a b n j := by
  have h := (W4_arr m ρ c 5).trans (arr2 (V3 m ρ) c)
  have h' : V4 m ρ c main_v12 = _ := h
  rw [h']
  show act (V3 m ρ c main_v11_0 (ix2 (row b n) j)) (V3 m ρ c main_v11_1 (ix2 0 j)) (V3 m ρ c main_v11_2 (ix2 0 j))
      (V3 m ρ c main_v8 (ix2 0 j)) (V3 m ρ c main_v9 (ix2 0 j)) = _
  rw [in2_z m ρ c a ha hd, in2_s m ρ c a ha hd, in2_q m ρ c a ha hd, in2_g, in2_t]
  rfl

include ha hd in
/-- The result array of the kernel program. -/
theorem kernel_value (b : Fin 8) (n : Fin 4096) (j : Fin 256) :
    W5 m ρ c (Proc.devRef .tc main_v13) (ix3 b n j) = (args m c).result a b n j := by
  rw [← out_row m ρ c a ha hd b n j]
  show StableHlo.after hostOps3 (W4 m ρ c) (Proc.devRef .tc main_v13) (ix3 b n j) = W4 m ρ c (Proc.devRef .tc main_v12) (ix2 (row b n) j)
  after_results
  pointwise
  rfl

end Cert.Proof

end
end
-- ==== Proof.Agree.lean ====
module

public import proofs.«01_k».proof.Proof.Pre
public import proofs.«01_k».proof.Proof.KOut

/-! # The two programs' results are equal -/

@[expose] public section

set_option maxRecDepth 16384

noncomputable section

namespace Cert.Proof

open Cert.KernelIdeal Cert.KernelIdeal.Gen
open Idealize.ShloMosaic Idealize.ShloMosaic.TcCoe

theorem IsReal.lt_top {x : EReal} (h : IsReal x) : x < ⊤ := by
  obtain ⟨r, rfl⟩ := h
  exact EReal.coe_lt_top r

variable (m : (ℓ : Loc nD τ sig) → Buf (Elt Ideal) ℓ) (ρ : Dev nD → PrngReg) (c : Dev nD)

/-- With the arguments the precondition names real, the kernel program's result is the reference's stage of the same
    arguments. -/
theorem results_agree (h : Finite (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11))) :
    W5 m ρ c (Proc.devRef .tc main_v13)
      = Cert.ReferenceIdeal.Read.val_main_v103 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) := by
  have hdist : ∀ b n, (fun s => Cert.ReferenceIdeal.Read.val_main_v13 (F := Ideal) (m ((c : Thread nD τ).loc main_arg0)) (m ((c : Thread nD τ).loc main_arg1)) (ix3 b n s))
      = (args m c).dist b n := fun b n => funext fun s => by
    rw [dist_apply]
    rfl
  have ha : ∀ b n, Nearest ((args m c).dist b n) (picked (m ((c : Thread nD τ).loc main_arg0)) (m ((c : Thread nD τ).loc main_arg1)) b n) := by
    intro b n
    rw [← hdist]
    exact picked_nearest _ _ b n
  have hd : ∀ b n s, (args m c).dist b n s < ⊤ := by
    intro b n s
    rw [← hdist]
    exact (dist_real h b n s).lt_top
  refine funext fun i => ?_
  have hi : i = ix3 (i 0) (i 1) (i 2) := eq_ix3 i
  rw [hi]
  refine (kernel_value m ρ c _ ha hd _ _ _).trans ?_
  refine Eq.trans ?_ (reference_value (m ((c : Thread nD τ).loc main_arg5)) (m ((c : Thread nD τ).loc main_arg12))
    (m ((c : Thread nD τ).loc main_arg13)) h _ _ _).symm
  rfl

end Cert.Proof

end
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KRun
public import proofs.«01_k».proof.Proof.Agree
public import Idealize.ShloMosaic.Lib.Quiescent

@[expose] public section

set_option maxRecDepth 16384

noncomputable section

namespace Cert.Proof

open Idealize.ShloMosaic Idealize.SL.Sem

/-- The reference declares no semaphore, and its run leaves the arguments unchanged. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem values_equal : Cert.algebraic_KernelIdeal_ReferenceIdeal_pre_finite := by
  intro m g m' g' hpre hargs
  refine ⟨fun c => Cert.KernelIdeal.Gen.W5 m g c (Proc.devRef .tc Cert.KernelIdeal.main_v13), kernel_run m g, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v103_eq (StableHlo.launchContents m' c)).trans ?_)
  have hfin := finite_of_pre _ _ _ _ _ _ _ _ _ _ _ _ _ _ (hpre c)
  refine Eq.trans ?_ (results_agree m g c hfin).symm
  obtain ⟨h0, h1, h2, h3, h4, h5, h6, h7, h8, h9, h10, h11, h12, h13⟩ := hargs c
  show Cert.ReferenceIdeal.Read.val_main_v103 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13)) = _
  rw [h0, h1, h2, h3, h4, h5, h6, h7, h8, h9, h10, h11, h12, h13]

theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "third" .f32 0x3EAAAAAB#32 ((1 / 3 : ℝ) : EReal) rfl,
    values_equal⟩

end Cert.Proof

end
end
